-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x5632 : Shape := ⟨3, ![3, 1024, 5632]⟩
abbrev S3x16x5632x2 : Shape := ⟨4, ![3, 16, 5632, 2]⟩
abbrev S3x16x2x5632 : Shape := ⟨4, ![3, 16, 2, 5632]⟩
abbrev S3x1408x128 : Shape := ⟨3, ![3, 1408, 128]⟩
abbrev S3x2816x2048 : Shape := ⟨3, ![3, 2816, 2048]⟩
abbrev S1x1024x512 : Shape := ⟨3, ![1, 1024, 512]⟩
abbrev S1x128x128 : Shape := ⟨3, ![1, 128, 128]⟩
abbrev S1x256x2048 : Shape := ⟨3, ![1, 256, 2048]⟩
abbrev S8x128x128 : Shape := ⟨3, ![8, 128, 128]⟩
abbrev S1024x512 : Shape := ⟨2, ![1024, 512]⟩
abbrev S32x128 : Shape := ⟨2, ![32, 128]⟩
abbrev S8x128 : Shape := ⟨2, ![8, 128]⟩
abbrev S16x128 : Shape := ⟨2, ![16, 128]⟩
abbrev S128x128 : Shape := ⟨2, ![128, 128]⟩
abbrev S256x2048 : Shape := ⟨2, ![256, 2048]⟩
abbrev S1x32x128 : Shape := ⟨3, ![1, 32, 128]⟩
abbrev S3x5632x16x2 : Shape := ⟨4, ![3, 5632, 16, 2]⟩

abbrev nBuf : Space → Nat
  | .hbm => 8
  | .vmem => 10
  | .smem => 0
  | _ => 0

abbrev bufTy : (tb : Table) → Fin (tcTables nBuf tb) → BufTy
  | .hbm, ⟨0, _⟩ => ⟨S3x1024x5632, .i8⟩
  | .hbm, ⟨1, _⟩ => ⟨S3x16x5632x2, .f32⟩
  | .hbm, ⟨2, _⟩ => ⟨S3x16x2x5632, .f32⟩
  | .hbm, ⟨3, _⟩ => ⟨S3x1408x128, .f32⟩
  | .hbm, ⟨4, _⟩ => ⟨S3x2816x2048, .i8⟩
  | .hbm, ⟨5, _⟩ => ⟨S3x1408x128, .f32⟩
  | .hbm, ⟨6, _⟩ => ⟨S3x16x2x5632, .f32⟩
  | .hbm, ⟨7, _⟩ => ⟨S3x5632x16x2, .f32⟩
  | .local _ .vmem, ⟨0, _⟩ => ⟨S1x1024x512, .i8⟩
  | .local _ .vmem, ⟨1, _⟩ => ⟨S1x1024x512, .i8⟩
  | .local _ .vmem, ⟨2, _⟩ => ⟨S1x128x128, .f32⟩
  | .local _ .vmem, ⟨3, _⟩ => ⟨S1x128x128, .f32⟩
  | .local _ .vmem, ⟨4, _⟩ => ⟨S1x256x2048, .i8⟩
  | .local _ .vmem, ⟨5, _⟩ => ⟨S1x256x2048, .i8⟩
  | .local _ .vmem, ⟨6, _⟩ => ⟨S1x128x128, .f32⟩
  | .local _ .vmem, ⟨7, _⟩ => ⟨S1x128x128, .f32⟩
  | .local _ .vmem, ⟨8, _⟩ => ⟨S8x128x128, .i32⟩
  | .local _ .vmem, ⟨9, _⟩ => ⟨S8x128x128, .i32⟩
  | _, _ => ⟨S3x1024x5632, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S3x1024x5632 : Shape := ⟨3, ![3, 1024, 5632]⟩
abbrev S3x16x5632x2 : Shape := ⟨4, ![3, 16, 5632, 2]⟩
abbrev S_ : Shape := ⟨0, ![]⟩
abbrev S3x1024x2816x2 : Shape := ⟨4, ![3, 1024, 2816, 2]⟩
abbrev S3x1024x2816x1 : Shape := ⟨4, ![3, 1024, 2816, 1]⟩
abbrev S3x1024x2816 : Shape := ⟨3, ![3, 1024, 2816]⟩
abbrev S3x2816x1024 : Shape := ⟨3, ![3, 2816, 1024]⟩
abbrev S3x2816x1024x1 : Shape := ⟨4, ![3, 2816, 1024, 1]⟩
abbrev S3x2816x1024x2 : Shape := ⟨4, ![3, 2816, 1024, 2]⟩
abbrev S3x2816x2048 : Shape := ⟨3, ![3, 2816, 2048]⟩
abbrev S3x5632x16x2 : Shape := ⟨4, ![3, 5632, 16, 2]⟩

abbrev nBuf : Space → Nat
  | .hbm => 36
  | .vmem => 0
  | .smem => 0
  | _ => 0

abbrev bufTy : (tb : Table) → Fin (tcTables nBuf tb) → BufTy
  | .hbm, ⟨0, _⟩ => ⟨S3x1024x5632, .i8⟩
  | .hbm, ⟨1, _⟩ => ⟨S3x16x5632x2, .f32⟩
  | .hbm, ⟨2, _⟩ => ⟨S3x1024x5632, .i32⟩
  | .hbm, ⟨3, _⟩ => ⟨S_, .i32⟩
  | .hbm, ⟨4, _⟩ => ⟨S3x1024x5632, .i32⟩
  | .hbm, ⟨5, _⟩ => ⟨S3x1024x5632, .i32⟩
  | .hbm, ⟨6, _⟩ => ⟨S_, .i32⟩
  | .hbm, ⟨7, _⟩ => ⟨S3x1024x5632, .i32⟩
  | .hbm, ⟨8, _⟩ => ⟨S3x1024x5632, .i32⟩
  | .hbm, ⟨9, _⟩ => ⟨S3x1024x2816x2, .i32⟩
  | .hbm, ⟨10, _⟩ => ⟨S3x1024x2816x1, .i32⟩
  | .hbm, ⟨11, _⟩ => ⟨S3x1024x2816, .i32⟩
  | .hbm, ⟨12, _⟩ => ⟨S3x1024x2816x1, .i32⟩
  | .hbm, ⟨13, _⟩ => ⟨S3x1024x2816, .i32⟩
  | .hbm, ⟨14, _⟩ => ⟨S_, .i32⟩
  | .hbm, ⟨15, _⟩ => ⟨S3x1024x2816, .i32⟩
  | .hbm, ⟨16, _⟩ => ⟨S3x1024x2816, .i32⟩
  | .hbm, ⟨17, _⟩ => ⟨S3x1024x2816, .i32⟩
  | .hbm, ⟨18, _⟩ => ⟨S3x2816x1024, .i32⟩
  | .hbm, ⟨19, _⟩ => ⟨S3x2816x1024, .i8⟩
  | .hbm, ⟨20, _⟩ => ⟨S3x1024x2816x2, .i32⟩
  | .hbm, ⟨21, _⟩ => ⟨S3x1024x2816x1, .i32⟩
  | .hbm, ⟨22, _⟩ => ⟨S3x1024x2816, .i32⟩
  | .hbm, ⟨23, _⟩ => ⟨S3x1024x2816x1, .i32⟩
  | .hbm, ⟨24, _⟩ => ⟨S3x1024x2816, .i32⟩
  | .hbm, ⟨25, _⟩ => ⟨S_, .i32⟩
  | .hbm, ⟨26, _⟩ => ⟨S3x1024x2816, .i32⟩
  | .hbm, ⟨27, _⟩ => ⟨S3x1024x2816, .i32⟩
  | .hbm, ⟨28, _⟩ => ⟨S3x1024x2816, .i32⟩
  | .hbm, ⟨29, _⟩ => ⟨S3x2816x1024, .i32⟩
  | .hbm, ⟨30, _⟩ => ⟨S3x2816x1024, .i8⟩
  | .hbm, ⟨31, _⟩ => ⟨S3x2816x1024x1, .i8⟩
  | .hbm, ⟨32, _⟩ => ⟨S3x2816x1024x1, .i8⟩
  | .hbm, ⟨33, _⟩ => ⟨S3x2816x1024x2, .i8⟩
  | .hbm, ⟨34, _⟩ => ⟨S3x2816x2048, .i8⟩
  | .hbm, ⟨35, _⟩ => ⟨S3x5632x16x2, .f32⟩
  | _, _ => ⟨S3x1024x5632, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.Structure.lean ====
module

public import proofs.«01_k».proof.Proof.Gen.KernelIdeal
public import Idealize.ShloMosaic.Lib.Pipeline.Regions

@[expose] public section

set_option synthInstance.maxSize 4096

noncomputable section

namespace Cert.KernelIdeal.Unit

open Idealize.ShloMosaic Idealize.SL.Sem Cert.KernelIdeal.Gen

variable {F : FTy → Type} [FloatOps F]

/-! ## The nibble transpose of eight words -/

/-- Eight vectors of 32-bit words. -/
structure W8 where
  (a0 a1 a2 a3 a4 a5 a6 a7 : IVec S8x128 32)

/-- The low halves of two words, side by side. -/
def even16 (a b : IVec S8x128 32) : IVec S8x128 32 := packElementwiseI16 a b

/-- The low bytes of each half of two words, side by side. -/
def even8 (a b : IVec S8x128 32) : IVec S8x128 32 :=
  bitcast S8x128 32
    (ori (andi (bitcast S16x128 16 a bitcasts_S8x128_w32_S16x128_w16) (broadcast S16x128 255#16))
      (shli (bitcast S16x128 16 b bitcasts_S8x128_w32_S16x128_w16) (broadcast S16x128 8#16)) : IVec S16x128 16)
    bitcasts_S16x128_w16_S8x128_w32

/-- The low nibbles of each byte of two words, side by side. -/
def even4 (a b : IVec S8x128 32) : IVec S8x128 32 :=
  bitcast S8x128 32
    (ori (andi (bitcast S32x128 8 a bitcasts_S8x128_w32_S32x128_w8) (broadcast S32x128 15#8))
      (shli (bitcast S32x128 8 b bitcasts_S8x128_w32_S32x128_w8) (broadcast S32x128 4#8)) : IVec S32x128 8)
    bitcasts_S32x128_w8_S8x128_w32

/-- What is left of two words once their low parts `e` are taken. -/
def odd (n : BitVec 32) (a b e : IVec S8x128 32) : IVec S8x128 32 := xori b (shrui (xori a e) (broadcast S8x128 n))

/-- First level: words four apart exchange their halves. -/
def level16 (w : W8) : W8 :=
  ⟨even16 w.a0 w.a4, even16 w.a1 w.a5, even16 w.a2 w.a6, even16 w.a3 w.a7,
   odd 16#32 w.a0 w.a4 (even16 w.a0 w.a4), odd 16#32 w.a1 w.a5 (even16 w.a1 w.a5),
   odd 16#32 w.a2 w.a6 (even16 w.a2 w.a6), odd 16#32 w.a3 w.a7 (even16 w.a3 w.a7)⟩

/-- Second level: words two apart exchange their bytes. -/
def level8 (w : W8) : W8 :=
  ⟨even8 w.a0 w.a2, even8 w.a1 w.a3, odd 8#32 w.a0 w.a2 (even8 w.a0 w.a2), odd 8#32 w.a1 w.a3 (even8 w.a1 w.a3),
   even8 w.a4 w.a6, even8 w.a5 w.a7, odd 8#32 w.a4 w.a6 (even8 w.a4 w.a6), odd 8#32 w.a5 w.a7 (even8 w.a5 w.a7)⟩

/-- Third level: neighbouring words exchange their nibbles. -/
def level4 (w : W8) : W8 :=
  ⟨even4 w.a0 w.a1, odd 4#32 w.a0 w.a1 (even4 w.a0 w.a1), even4 w.a2 w.a3, odd 4#32 w.a2 w.a3 (even4 w.a2 w.a3),
   even4 w.a4 w.a5, odd 4#32 w.a4 w.a5 (even4 w.a4 w.a5), even4 w.a6 w.a7, odd 4#32 w.a6 w.a7 (even4 w.a6 w.a7)⟩

/-- The three levels together. -/
def net (w : W8) : W8 := level4 (level8 (level16 w))

/-! ## The body by units -/

section body
variable (arg2 : Memref sig .tc .vmem S1x1024x512 .i8) (arg4 : Memref sig .tc .vmem S1x256x2048 .i8) (harg4 : arg4.IsWhole)
  (arg6 arg7 : Memref sig .tc .vmem S8x128x128 .i32)

/-- A block of 32 rows and 128 columns of the input. -/
theorem inbX {r c : Nat} (h : r + 32 ≤ 1024 ∧ c + 128 ≤ 512) : ∀ a, (![r, c] : Fin 2 → Nat) a + S32x128.size a ≤ S1024x512.size a :=
  fun | 0 => h.1 | 1 => h.2

/-- Every eighth row of a scratch page. -/
theorem inbS {r : Nat} (h : r + 56 < 128) : ∀ a, S8x128.size a = 0 ∨ (![r, 0] : Fin 2 → Nat) a + (![8, 1] : Fin 2 → Nat) a * (S8x128.size a - 1) < S128x128.size a :=
  fun | 0 => .inr h | 1 => .inr (show 0 + 1 * (128 - 1) < 128 by decide)

/-- One scratch page. -/
theorem inbP {u : Nat} (h : u < 8) : ∀ a, (![u, 0, 0] : Fin 3 → Nat) a + S1x128x128.size a ≤ S8x128x128.size a :=
  fun | 0 => h | 1 => le_rfl | 2 => le_rfl

/-- A block of 32 rows and 128 columns of the output's page. -/
theorem inbO2 {r c : Nat} (h : r + 32 ≤ 256 ∧ c + 128 ≤ 2048) : ∀ a, (![r, c] : Fin 2 → Nat) a + S32x128.size a ≤ S256x2048.size a :=
  fun | 0 => h.1 | 1 => h.2

/-- The same block in the output with its leading axis. -/
theorem inbO {r c : Nat} (h : r + 32 ≤ 256 ∧ c + 128 ≤ 2048) : ∀ a, (![0, r, c] : Fin 3 → Nat) a + S1x32x128.size a ≤ S1x256x2048.size a :=
  fun | 0 => le_rfl | 1 => h.1 | 2 => h.2

/-- A store of 32 rows that starts at a multiple of four covers whole packed words of the output. -/
theorem packedO {r c : Nat} (h : r + 32 ≤ 256 ∧ c + 128 ≤ 2048) (hr : 4 ∣ r) :
    (Rect.unit (s := S1x256x2048) ![0, r, c] S1x32x128.size (inbO h)).PackedRows (EltTy.packing .i8) := by
  have h2 : 2 ≤ S1x256x2048.rank := by decide
  refine .inr ⟨h2, rfl, .inl ⟨?_, ?_⟩⟩
  · exact hr
  · exact (by decide : 4 ∣ 32)

/-- Eight words of the input, from row `r` on 64 rows apart, then the rest of the program at them. -/
def loadX (r c : Nat) (h : r + 448 + 32 ≤ 1024 ∧ c + 128 ≤ 512) :
    Prog (TpuEff nD τ sig (Elt F) Λ₀ .tc) W8 :=
  let ld (q : Nat) (hq : q ≤ 7) : Prog (TpuEff nD τ sig (Elt F) Λ₀ .tc) (Vec F S32x128 .i8) :=
    Prog.lift (.load ((arg2.slice (Rect.unit (s := S1x1024x512) ![0, 0, 0] S1x1024x512.size inb_S1x1024x512_S1x1024x512_0_0_0) (fun _ => rfl)).squeeze S1024x512 squeezes_S1x1024x512_S1024x512)
      (Rect.unit (s := S1024x512) ![r + 64 * q, c] S32x128.size (inbX ⟨by omega, h.2⟩)).toLoadRect (View.loadsAt_vmem h_S32x128))
  let wd (v : Vec F S32x128 .i8) : IVec S8x128 32 := bitcast S8x128 32 v bitcasts_S32x128_w8_S8x128_w32
  ld 0 (by decide) >>= fun v0 => ld 1 (by decide) >>= fun v1 => ld 2 (by decide) >>= fun v2 => ld 3 (by decide) >>= fun v3 =>
  ld 4 (by decide) >>= fun v4 => ld 5 (by decide) >>= fun v5 => ld 6 (by decide) >>= fun v6 => ld 7 (by decide) >>= fun v7 =>
  pure ⟨wd v0, wd v1, wd v2, wd v3, wd v4, wd v5, wd v6, wd v7⟩

/-- Page `u` of a scratch buffer. -/
def page (m : Memref sig .tc .vmem S8x128x128 .i32) (u : Nat) (hu : u < 8) : Memref sig .tc .vmem S128x128 .i32 :=
  (m.slice (Rect.unit (s := S8x128x128) ![u, 0, 0] S1x128x128.size (inbP hu)) (fun _ => rfl)).squeeze S128x128 squeezes_S1x128x128_S128x128

/-- Load every eighth row of a page from row `r`. -/
def loadS (m : Memref sig .tc .vmem S8x128x128 .i32) (u : Nat) (hu : u < 8) (r : Nat) (h : r + 56 < 128) :
    Prog (TpuEff nD τ sig (Elt F) Λ₀ .tc) (Vec F S8x128 .i32) :=
  Prog.lift (.load (page m u hu) (⟨![r, 0], S8x128.size, ![8, 1], inbS h⟩ : LoadRect S128x128) (View.loadsAt_vmem h_S8x128))

/-- Store at every eighth row of a page from row `r`, the rows loaded first and dropped. -/
def storeS (m : Memref sig .tc .vmem S8x128x128 .i32) (u : Nat) (hu : u < 8) (r : Nat) (h : r + 56 < 128) (w : IVec S8x128 32) :
    Prog (TpuEff nD τ sig (Elt F) Λ₀ .tc) PUnit :=
  loadS m u hu r h >>= fun _ =>
  Prog.lift (.store (page m u hu) ⟨(⟨![r, 0], S8x128.size, ![8, 1], inbS h⟩ : LoadRect S128x128), spos_8_1⟩
    (shapeCast S8x128 w shapeCasts_S8x128_S8x128) Finset.univ (View.stores_vmem_bits_univ h_S8x128 rfl) (.inl rfl))

/-- Store eight words, one row after another, at a page from row `r`. -/
def storeW (m : Memref sig .tc .vmem S8x128x128 .i32) (u : Nat) (hu : u < 8) (r : Nat) (h : r + 64 ≤ 128) (w : W8) :
    Prog (TpuEff nD τ sig (Elt F) Λ₀ .tc) PUnit :=
  storeS m u hu (r + 0) (by omega) w.a0 >>= fun _ => storeS m u hu (r + 1) (by omega) w.a1 >>= fun _ =>
  storeS m u hu (r + 2) (by omega) w.a2 >>= fun _ => storeS m u hu (r + 3) (by omega) w.a3 >>= fun _ =>
  storeS m u hu (r + 4) (by omega) w.a4 >>= fun _ => storeS m u hu (r + 5) (by omega) w.a5 >>= fun _ =>
  storeS m u hu (r + 6) (by omega) w.a6 >>= fun _ => storeS m u hu (r + 7) (by omega) w.a7

/-- Load eight words, one row after another, of a page from row `r`. -/
def loadW (m : Memref sig .tc .vmem S8x128x128 .i32) (u : Nat) (hu : u < 8) (r : Nat) (h : r + 64 ≤ 128) :
    Prog (TpuEff nD τ sig (Elt F) Λ₀ .tc) W8 :=
  loadS m u hu (r + 0) (by omega) >>= fun v0 => loadS m u hu (r + 1) (by omega) >>= fun v1 =>
  loadS m u hu (r + 2) (by omega) >>= fun v2 => loadS m u hu (r + 3) (by omega) >>= fun v3 =>
  loadS m u hu (r + 4) (by omega) >>= fun v4 => loadS m u hu (r + 5) (by omega) >>= fun v5 =>
  loadS m u hu (r + 6) (by omega) >>= fun v6 => loadS m u hu (r + 7) (by omega) >>= fun v7 =>
  pure ⟨v0, v1, v2, v3, v4, v5, v6, v7⟩

/-- Store the bytes of a vector of words at a block of the output, the block loaded first and dropped. -/
def storeO (r c : Nat) (h : r + 32 ≤ 256 ∧ c + 128 ≤ 2048) (hr : 4 ∣ r) (w : IVec S8x128 32) :
    Prog (TpuEff nD τ sig (Elt F) Λ₀ .tc) PUnit :=
  Prog.lift (.load ((arg4.slice (Rect.unit (s := S1x256x2048) ![0, 0, 0] S1x256x2048.size inb_S1x256x2048_S1x256x2048_0_0_0) (fun _ => rfl)).squeeze S256x2048 squeezes_S1x256x2048_S256x2048)
      (Rect.unit (s := S256x2048) ![r, c] S32x128.size (inbO2 h)).toLoadRect (View.loadsAt_vmem h_S32x128)) >>= fun (_ : Vec F S32x128 .i8) =>
  Prog.lift (.store arg4 (Rect.unit (s := S1x256x2048) ![0, r, c] S1x32x128.size (inbO h))
    (shapeCast S1x32x128 (bitcast S32x128 8 w bitcasts_S8x128_w32_S32x128_w8 : IVec S32x128 8) shapeCasts_S32x128_S1x32x128 : Vec F S1x32x128 .i8) Finset.univ
    (View.stores_vmem h_S1x32x128 (harg4.storeExact_slice rfl _ (packedO h hr)) (fun _ => rfl)) (.inl rfl))

/-- Store eight words' bytes at eight blocks of the output side by side. -/
def storeO8 (r c : Nat) (h : r + 32 ≤ 256 ∧ c + 1024 ≤ 2048) (hr : 4 ∣ r) (w : W8) :
    Prog (TpuEff nD τ sig (Elt F) Λ₀ .tc) PUnit :=
  storeO arg4 harg4 r (c + 128 * 0) (by omega) hr w.a0 >>= fun _ => storeO arg4 harg4 r (c + 128 * 1) (by omega) hr w.a1 >>= fun _ =>
  storeO arg4 harg4 r (c + 128 * 2) (by omega) hr w.a2 >>= fun _ => storeO arg4 harg4 r (c + 128 * 3) (by omega) hr w.a3 >>= fun _ =>
  storeO arg4 harg4 r (c + 128 * 4) (by omega) hr w.a4 >>= fun _ => storeO arg4 harg4 r (c + 128 * 5) (by omega) hr w.a5 >>= fun _ =>
  storeO arg4 harg4 r (c + 128 * 6) (by omega) hr w.a6 >>= fun _ => storeO arg4 harg4 r (c + 128 * 7) (by omega) hr w.a7

/-- The words of half a page: loaded, exchanged, stored in the first scratch. -/
def phase1 (u : Nat) (hu : u < 8) (t h k6 : Nat) (ht : t < 4) (hh : h < 2) (hk : k6 < 2) : Prog (TpuEff nD τ sig (Elt F) Λ₀ .tc) PUnit :=
  loadX arg2 (512 * h + 32 * k6) (128 * t) (by omega) >>= fun w => storeW arg6 u hu (64 * k6) (by omega) (net w)

/-- The page transposed into the second scratch. -/
def phase2 (u : Nat) (hu : u < 8) : Prog (TpuEff nD τ sig (Elt F) Λ₀ .tc) PUnit :=
  Prog.lift (.load arg6 (Rect.unit (s := S8x128x128) ![u, 0, 0] S1x128x128.size (inbP hu)).toLoadRect (View.loadsAt_vmem h_S1x128x128)) >>= fun (v : Vec F S1x128x128 .i32) =>
  Prog.lift (.load arg7 (Rect.unit (s := S8x128x128) ![u, 0, 0] S1x128x128.size (inbP hu)).toLoadRect (View.loadsAt_vmem h_S1x128x128)) >>= fun (_ : Vec F S1x128x128 .i32) =>
  Prog.lift (.store arg7 (Rect.unit (s := S8x128x128) ![u, 0, 0] S1x128x128.size (inbP hu))
    (shapeCast S1x128x128 (transpose S128x128 [1, 0] (shapeCast S128x128 v shapeCasts_S1x128x128_S128x128 : IVec S128x128 32) transposes_S128x128_p1_0_S128x128 : IVec S128x128 32) shapeCasts_S128x128_S1x128x128 : IVec S1x128x128 32)
    Finset.univ (View.stores_vmem_bits_univ h_S1x128x128 rfl) (.inl rfl))

/-- The words of half the transposed page: loaded, exchanged, stored in the output. -/
def phase3 (u : Nat) (hu : u < 8) (t h k : Nat) (ht : t < 4) (hh : h < 2) (hk : k < 2) : Prog (TpuEff nD τ sig (Elt F) Λ₀ .tc) PUnit :=
  loadW arg7 u hu (64 * k) (by omega) >>= fun w => storeO8 arg4 harg4 (64 * t + 32 * k) (1024 * h) (by omega) (by omega) (net w)

/-- One unit: two input halves, the transpose, two output halves. -/
def unit (t h : Nat) (ht : t < 4) (hh : h < 2) : Prog (TpuEff nD τ sig (Elt F) Λ₀ .tc) PUnit :=
  phase1 arg2 arg6 (2 * t + h) (by omega) t h 0 ht hh (by decide) >>= fun _ =>
  phase1 arg2 arg6 (2 * t + h) (by omega) t h 1 ht hh (by decide) >>= fun _ =>
  phase2 arg6 arg7 (2 * t + h) (by omega) >>= fun _ =>
  phase3 arg4 harg4 arg7 (2 * t + h) (by omega) t h 0 ht hh (by decide) >>= fun _ =>
  phase3 arg4 harg4 arg7 (2 * t + h) (by omega) t h 1 ht hh (by decide)

/-- The scales' block, copied. -/
def copyS (arg3 arg5 : Memref sig .tc .vmem S1x128x128 .f32) : Prog (TpuEff nD τ sig (Elt F) Λ₀ .tc) PUnit :=
  Prog.lift (.load arg3 (Rect.unit (s := S1x128x128) ![0, 0, 0] S1x128x128.size inb_S1x128x128_S1x128x128_0_0_0).toLoadRect (View.loadsAt_vmem h_S1x128x128)) >>= fun (v : Vec F S1x128x128 .f32) =>
  Prog.lift (.load arg5 (Rect.unit (s := S1x128x128) ![0, 0, 0] S1x128x128.size inb_S1x128x128_S1x128x128_0_0_0).toLoadRect (View.loadsAt_vmem h_S1x128x128)) >>= fun (_ : Vec F S1x128x128 .f32) =>
  Prog.lift (.store arg5 (Rect.unit (s := S1x128x128) ![0, 0, 0] S1x128x128.size inb_S1x128x128_S1x128x128_0_0_0)
    (shapeCast S1x128x128 v shapeCasts_S1x128x128_S1x128x128 : FVec F S1x128x128 .f32) Finset.univ (View.stores_vmem_bits_univ h_S1x128x128 rfl) (.inl rfl))

/-- The whole body: the copy, then the eight units. -/
def body (arg3 arg5 : Memref sig .tc .vmem S1x128x128 .f32) : Prog (TpuEff nD τ sig (Elt F) Λ₀ .tc) PUnit :=
  copyS arg3 arg5 >>= fun _ =>
  unit arg2 arg4 harg4 arg6 arg7 0 0 (by decide) (by decide) >>= fun _ =>
  unit arg2 arg4 harg4 arg6 arg7 0 1 (by decide) (by decide) >>= fun _ =>
  unit arg2 arg4 harg4 arg6 arg7 1 0 (by decide) (by decide) >>= fun _ =>
  unit arg2 arg4 harg4 arg6 arg7 1 1 (by decide) (by decide) >>= fun _ =>
  unit arg2 arg4 harg4 arg6 arg7 2 0 (by decide) (by decide) >>= fun _ =>
  unit arg2 arg4 harg4 arg6 arg7 2 1 (by decide) (by decide) >>= fun _ =>
  unit arg2 arg4 harg4 arg6 arg7 3 0 (by decide) (by decide) >>= fun _ =>
  unit arg2 arg4 harg4 arg6 arg7 3 1 (by decide) (by decide)

end body

set_option maxRecDepth 65536 in
/-- The printed body is the body by units. -/
theorem repack_eq (i : grid0.Coords) (arg2 : Memref sig .tc .vmem S1x1024x512 .i8) (harg2 : arg2.IsWhole) (arg3 : Memref sig .tc .vmem S1x128x128 .f32) (harg3 : arg3.IsWhole) (arg4 : Memref sig .tc .vmem S1x256x2048 .i8) (harg4 : arg4.IsWhole) (arg5 : Memref sig .tc .vmem S1x128x128 .f32) (harg5 : arg5.IsWhole) (arg6 : Memref sig .tc .vmem S8x128x128 .i32) (harg6 : arg6.IsWhole) (arg7 : Memref sig .tc .vmem S8x128x128 .i32) (harg7 : arg7.IsWhole) :
    cc0_repack (F := F) i arg2 harg2 arg3 harg3 arg4 harg4 arg5 harg5 arg6 harg6 arg7 harg7 = body arg2 arg4 harg4 arg6 arg7 arg3 arg5 := by
  chain_rfl

end Cert.KernelIdeal.Unit
-- ==== Proof.Rules.lean ====
module

public import proofs.«01_k».proof.Proof.Structure
public import Idealize.ShloMosaic.Rules
public import Idealize.ShloMosaic.Lib.Memref
public import Idealize.ShloMosaic.Lib.Tactic
public import Idealize.ShloMosaic.Lib.Pipeline.FrameBody

@[expose] public section

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## Contents overwritten along a map of indices -/

open Classical in
/-- `X` with `w a` at every `e a`. -/
def put {A B V : Type} (e : A → B) (w : A → V) (X : B → V) : B → V :=
  fun j => if h : ∃ a, e a = j then w h.choose else X j

/-- At an image the overwritten contents are the payload. -/
theorem put_at {A B V : Type} {e : A → B} (he : Function.Injective e) (w : A → V) (X : B → V) (a : A) :
    put e w X (e a) = w a := by
  unfold put
  have h : ∃ a', e a' = e a := ⟨a, rfl⟩
  rw [dif_pos h]; exact congrArg w (he h.choose_spec)

/-- Off the image they are the old contents. -/
theorem put_off {A B V : Type} {e : A → B} (w : A → V) (X : B → V) {j : B} (h : ∀ a, e a ≠ j) : put e w X j = X j := by
  unfold put; rw [dif_neg (fun ⟨a, ha⟩ => h a ha)]

/-! ## Loads and stores of an owned memref -/

section
variable (c : Dev nD) (E : Set ℕ) {s s' : Shape} {e : EltTy}

/-- A load of an owned memref answers its contents under the coordinates read. -/
theorem wp_load_owns {sp : CoreSpace} {m : Memref sig .tc sp s e} {r : LoadRect s} {hl : m.view.LoadsAt r} {X : s.Idx → Elt F e}
    {Q : (r.shape.Idx → Elt F e) → sProp 𝕄} :
    iprop(owns (c : Thread nD τ) m fullShare X ∗ (owns (c : Thread nD τ) m fullShare X -∗ Q (fun i => X (r.idx i))))
      ⊢ wp frame (wpE (defs₀ (F := F)) Variants.none c none) E (Prog.lift (.load m r hl)) Q := by
  unfold owns
  iintro ⟨⟨%f, %hf, H⟩, HQ⟩
  iapply (wp_load Variants.none (c : Thread nD τ) none E (m := m) (r := r) (hl := hl) (k := Prog.ret) (S := m.view.set) (f := f) (q := fullShare)
    (Finset.map_subset_map.mpr (Finset.subset_univ _))) $$ H
  iintro H
  rw [wp_ret, show m.view.readAt (Elt F) r f = fun i => X (r.idx i) by subst hf; rfl]
  imodintro
  iapply HQ
  iexists f
  isplitr; · ipureintro; exact hf
  iexact H

/-- A load through a squeezed slice of an owned memref answers the memref's contents under the coordinates read. -/
theorem wp_load_owns_slice {sp : CoreSpace} {m : Memref sig .tc sp s e} {r0 : Rect s} {h0 : ∀ a, r0.stride a = 1} {hs : r0.shape.Squeezes s'}
    {r : LoadRect s'} {hl : ((m.slice r0 h0).squeeze s' hs).view.LoadsAt r} {X : s.Idx → Elt F e}
    {Q : (r.shape.Idx → Elt F e) → sProp 𝕄} :
    iprop(owns (c : Thread nD τ) m fullShare X ∗ (owns (c : Thread nD τ) m fullShare X -∗ Q (fun i => X (r0.emb (Shape.reshapeEquiv hs.numel_eq (r.idx i))))))
      ⊢ wp frame (wpE (defs₀ (F := F)) Variants.none c none) E (Prog.lift (.load ((m.slice r0 h0).squeeze s' hs) r hl)) Q := by
  unfold owns
  iintro ⟨⟨%f, %hf, H⟩, HQ⟩
  iapply (wp_load Variants.none (c : Thread nD τ) none E (m := (m.slice r0 h0).squeeze s' hs) (r := r) (hl := hl) (k := Prog.ret) (S := m.view.set) (f := f) (q := fullShare)
    (fun j hj => by
      obtain ⟨x, -, rfl⟩ := Finset.mem_map.mp hj
      exact m.view.emb_mem_set (r0.emb (Shape.reshapeEquiv hs.numel_eq x)))) $$ H
  iintro H
  rw [wp_ret, show ((m.slice r0 h0).squeeze s' hs).view.readAt (Elt F) r f
    = fun i => X (r0.emb (Shape.reshapeEquiv hs.numel_eq (r.idx i))) by subst hf; rfl]
  imodintro
  iapply HQ
  iexists f
  isplitr; · ipureintro; exact hf
  iexact H

/-- A store into a rectangle of an owned memref overwrites its contents there. -/
theorem wp_store_owns {sp : CoreSpace} {m : Memref sig .tc sp s e} {r : Rect s} {w : r.shape.Idx → Elt F e}
    {hx : (m.access r).Stores Finset.univ} {hm : Finset.univ = (Finset.univ : Finset r.shape.Idx) ∨ ∀ a, r.stride a = 1} {X : s.Idx → Elt F e}
    {Q : PUnit → sProp 𝕄} :
    iprop(owns (c : Thread nD τ) m fullShare X ∗ (owns (c : Thread nD τ) m fullShare (put r.emb w X) -∗ Q ⟨⟩))
      ⊢ wp frame (wpE (defs₀ (F := F)) Variants.none c none) E (Prog.lift (.store m r w Finset.univ hx hm)) Q := by
  unfold owns
  iintro ⟨⟨%f, %hf, H⟩, HQ⟩
  iapply (wp_store Variants.none (c : Thread nD τ) none E (m := m) (r := r) (w := w) (hx := hx) (hm := hm) (k := Prog.ret) (S := m.view.set) (f := f)
    (fun j hj => by
      obtain ⟨x, -, rfl⟩ := Finset.mem_map.mp hj
      exact m.view.emb_mem_set (r.emb x))) $$ H
  iintro H
  rw [wp_ret]
  imodintro
  iapply HQ
  iexists (m.access r).write (Elt F) f w Finset.univ
  isplitr
  · ipureintro
    subst hf
    funext j
    by_cases h : ∃ a, r.emb a = j
    · obtain ⟨a, rfl⟩ := h
      rw [put_at r.emb.injective]
      exact View.read_slice_write_emb _ _ _ (Finset.mem_univ a)
    · rw [put_off _ _ (fun a ha => h ⟨a, ha⟩)]
      exact View.read_slice_write_of_not_mem _ _ _ _ (fun hj => by
        obtain ⟨a, -, ha⟩ := Finset.mem_map.mp hj; exact h ⟨a, ha⟩)
  iexact H

/-- A store through a squeezed slice of an owned memref overwrites the memref's contents under its coordinates. -/
theorem wp_store_owns_slice {sp : CoreSpace} {m : Memref sig .tc sp s e} {r0 : Rect s} {h0 : ∀ a, r0.stride a = 1} {hs : r0.shape.Squeezes s'}
    {r : Rect s'} {w : r.shape.Idx → Elt F e}
    {hx : (((m.slice r0 h0).squeeze s' hs).access r).Stores Finset.univ} {hm : Finset.univ = (Finset.univ : Finset r.shape.Idx) ∨ ∀ a, r.stride a = 1} {X : s.Idx → Elt F e}
    {Q : PUnit → sProp 𝕄} :
    iprop(owns (c : Thread nD τ) m fullShare X
        ∗ (owns (c : Thread nD τ) m fullShare (put (fun i => r0.emb (Shape.reshapeEquiv hs.numel_eq (r.emb i))) w X) -∗ Q ⟨⟩))
      ⊢ wp frame (wpE (defs₀ (F := F)) Variants.none c none) E (Prog.lift (.store ((m.slice r0 h0).squeeze s' hs) r w Finset.univ hx hm)) Q := by
  unfold owns
  iintro ⟨⟨%f, %hf, H⟩, HQ⟩
  iapply (wp_store Variants.none (c : Thread nD τ) none E (m := (m.slice r0 h0).squeeze s' hs) (r := r) (w := w) (hx := hx) (hm := hm) (k := Prog.ret) (S := m.view.set) (f := f)
    (fun j hj => by
      obtain ⟨x, -, rfl⟩ := Finset.mem_map.mp hj
      exact m.view.emb_mem_set (r0.emb (Shape.reshapeEquiv hs.numel_eq (r.emb x))))) $$ H
  iintro H
  rw [wp_ret]
  imodintro
  iapply HQ
  iexists (((m.slice r0 h0).squeeze s' hs).access r).write (Elt F) f w Finset.univ
  isplitr
  · ipureintro
    subst hf
    have hi : Function.Injective (fun i => r0.emb (Shape.reshapeEquiv hs.numel_eq (r.emb i))) := fun a b h =>
      r.emb.injective ((Shape.reshapeEquiv hs.numel_eq).injective (r0.emb.injective h))
    funext j
    by_cases h : ∃ a, r0.emb (Shape.reshapeEquiv hs.numel_eq (r.emb a)) = j
    · obtain ⟨a, rfl⟩ := h
      rw [put_at hi, View.read_apply]
      refine (congrArg _ (View.write_emb_of_mem (v := ((m.slice r0 h0).squeeze s' hs).access r) (Val := Elt F) f w (Finset.mem_univ a))).trans ?_
      exact (cast_cast _ _ _).trans (cast_eq _ _)
    · rw [put_off _ _ (fun a ha => h ⟨a, ha⟩), View.read_apply, View.read_apply]
      refine congrArg _ (View.write_of_not_mem (v := ((m.slice r0 h0).squeeze s' hs).access r) (Val := Elt F) f w Finset.univ (fun hj => ?_))
      obtain ⟨a, -, ha⟩ := Finset.mem_map.mp hj
      exact h ⟨a, m.view.emb.injective ha⟩
  iexact H

/-- One program after another. -/
theorem wp_seq {α β : Type} {p : Prog (TpuEff nD τ sig (Elt F) Λ₀ .tc) α} {k : α → Prog (TpuEff nD τ sig (Elt F) Λ₀ .tc) β} {Q : β → sProp 𝕄} :
    wp frame (wpE (defs₀ (F := F)) Variants.none c none) E p (fun x => wp frame (wpE (defs₀ (F := F)) Variants.none c none) E (k x) Q)
      ⊢ wp frame (wpE (defs₀ (F := F)) Variants.none c none) E (p >>= k) Q :=
  Entails.of_eq (wp_bind _ _ _ _ _ _).symm

end

end Cert.KernelIdeal.Unit
-- ==== Proof.Phases.lean ====
module

public import proofs.«01_k».proof.Proof.Rules
public import Idealize.ShloMosaic.Lib.Pointwise.Reshape

@[expose] public section

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## What the phases read and write -/

/-- The element of the input block under `i` of a block of 32 rows from `r` and 128 columns from `c`. -/
def xIdx (r c : Nat) (h : r + 32 ≤ 1024 ∧ c + 128 ≤ 512) (i : S32x128.Idx) : S1x1024x512.Idx :=
  (Rect.unit (s := S1x1024x512) ![0, 0, 0] S1x1024x512.size inb_S1x1024x512_S1x1024x512_0_0_0).emb
    (Shape.reshapeEquiv squeezes_S1x1024x512_S1024x512.numel_eq ((Rect.unit (s := S1024x512) ![r, c] S32x128.size (inbX h)).toLoadRect.idx i))

/-- The words of such a block. -/
def word (X : Vec F S1x1024x512 .i8) (r c : Nat) (h : r + 32 ≤ 1024 ∧ c + 128 ≤ 512) : IVec S8x128 32 :=
  bitcast S8x128 32 (fun i : S32x128.Idx => (X (xIdx r c h i) : BitVec 8)) bitcasts_S32x128_w8_S8x128_w32

/-- The words of eight such blocks, 64 rows apart. -/
def words (X : Vec F S1x1024x512 .i8) (r c : Nat) (h : r + 448 + 32 ≤ 1024 ∧ c + 128 ≤ 512) : W8 :=
  ⟨word X (r + 64 * 0) c (by omega), word X (r + 64 * 1) c (by omega), word X (r + 64 * 2) c (by omega), word X (r + 64 * 3) c (by omega),
   word X (r + 64 * 4) c (by omega), word X (r + 64 * 5) c (by omega), word X (r + 64 * 6) c (by omega), word X (r + 64 * 7) c (by omega)⟩

/-- The element of a scratch buffer under `i` of every eighth row of page `u` from row `r`. -/
def sIdx (u : Nat) (hu : u < 8) (r : Nat) (h : r + 56 < 128) (i : S8x128.Idx) : S8x128x128.Idx :=
  (Rect.unit (s := S8x128x128) ![u, 0, 0] S1x128x128.size (inbP hu)).emb
    (Shape.reshapeEquiv squeezes_S1x128x128_S128x128.numel_eq ((⟨![r, 0], S8x128.size, ![8, 1], inbS h⟩ : LoadRect S128x128).idx i))

/-- The eight rows interleaved from row `r`. -/
def rows (D : IVec S8x128x128 32) (u : Nat) (hu : u < 8) (r : Nat) (h : r + 64 ≤ 128) : W8 :=
  ⟨fun i => D (sIdx u hu (r + 0) (by omega) i), fun i => D (sIdx u hu (r + 1) (by omega) i), fun i => D (sIdx u hu (r + 2) (by omega) i), fun i => D (sIdx u hu (r + 3) (by omega) i),
   fun i => D (sIdx u hu (r + 4) (by omega) i), fun i => D (sIdx u hu (r + 5) (by omega) i), fun i => D (sIdx u hu (r + 6) (by omega) i), fun i => D (sIdx u hu (r + 7) (by omega) i)⟩

/-- A scratch buffer with one word at every eighth row of page `u` from row `r`. -/
def putS (u : Nat) (hu : u < 8) (r : Nat) (h : r + 56 < 128) (w : IVec S8x128 32) (D : IVec S8x128x128 32) : IVec S8x128x128 32 :=
  put (sIdx u hu r h) (shapeCast S8x128 w shapeCasts_S8x128_S8x128) D

/-- A scratch buffer with eight words interleaved in page `u` from row `r`. -/
def putW (u : Nat) (hu : u < 8) (r : Nat) (h : r + 64 ≤ 128) (w : W8) (D : IVec S8x128x128 32) : IVec S8x128x128 32 :=
  putS u hu (r + 7) (by omega) w.a7 <| putS u hu (r + 6) (by omega) w.a6 <| putS u hu (r + 5) (by omega) w.a5 <| putS u hu (r + 4) (by omega) w.a4 <|
  putS u hu (r + 3) (by omega) w.a3 <| putS u hu (r + 2) (by omega) w.a2 <| putS u hu (r + 1) (by omega) w.a1 <| putS u hu (r + 0) (by omega) w.a0 D

/-- The output block with a word's bytes at 32 rows from `r` and 128 columns from `c`. -/
def putO (r c : Nat) (h : r + 32 ≤ 256 ∧ c + 128 ≤ 2048) (w : IVec S8x128 32) (O : Vec F S1x256x2048 .i8) : Vec F S1x256x2048 .i8 :=
  put (Rect.unit (s := S1x256x2048) ![0, r, c] S1x32x128.size (inbO h)).emb
    (shapeCast S1x32x128 (bitcast S32x128 8 w bitcasts_S8x128_w32_S32x128_w8 : IVec S32x128 8) shapeCasts_S32x128_S1x32x128 : Vec F S1x32x128 .i8) O

/-- The output block with eight words' bytes side by side. -/
def putO8 (r c : Nat) (h : r + 32 ≤ 256 ∧ c + 1024 ≤ 2048) (w : W8) (O : Vec F S1x256x2048 .i8) : Vec F S1x256x2048 .i8 :=
  putO r (c + 128 * 7) (by omega) w.a7 <| putO r (c + 128 * 6) (by omega) w.a6 <| putO r (c + 128 * 5) (by omega) w.a5 <| putO r (c + 128 * 4) (by omega) w.a4 <|
  putO r (c + 128 * 3) (by omega) w.a3 <| putO r (c + 128 * 2) (by omega) w.a2 <| putO r (c + 128 * 1) (by omega) w.a1 <| putO r (c + 128 * 0) (by omega) w.a0 O

/-- A scratch buffer with page `u` of another one transposed in its page `u`. -/
def putT (u : Nat) (hu : u < 8) (D D' : IVec S8x128x128 32) : IVec S8x128x128 32 :=
  put (Rect.unit (s := S8x128x128) ![u, 0, 0] S1x128x128.size (inbP hu)).emb
    (shapeCast S1x128x128 (transpose S128x128 [1, 0] (shapeCast S128x128 (fun i : S1x128x128.Idx => D ((Rect.unit (s := S8x128x128) ![u, 0, 0] S1x128x128.size (inbP hu)).toLoadRect.idx i)) shapeCasts_S1x128x128_S128x128 : IVec S128x128 32) transposes_S128x128_p1_0_S128x128 : IVec S128x128 32) shapeCasts_S128x128_S1x128x128 : IVec S1x128x128 32) D'

/-! ## The phases' triples -/

section
variable (c : Dev nD) (E : Set ℕ) {arg2 : Memref sig .tc .vmem S1x1024x512 .i8} {arg4 : Memref sig .tc .vmem S1x256x2048 .i8} {harg4 : arg4.IsWhole}
  {arg6 arg7 : Memref sig .tc .vmem S8x128x128 .i32}

/-- One load of the input. -/
theorem wp_loadX1 (X : Vec F S1x1024x512 .i8) (r k : Nat) (h : r + 32 ≤ 1024 ∧ k + 128 ≤ 512) (Q : Vec F S32x128 .i8 → sProp 𝕄) :
    iprop(owns (c : Thread nD τ) arg2 fullShare X ∗ (owns (c : Thread nD τ) arg2 fullShare X -∗ Q (fun i => X (xIdx r k h i))))
      ⊢ wp frame (wpE (defs₀ (F := F)) Variants.none c none) E
        (Prog.lift (.load ((arg2.slice (Rect.unit (s := S1x1024x512) ![0, 0, 0] S1x1024x512.size inb_S1x1024x512_S1x1024x512_0_0_0) (fun _ => rfl)).squeeze S1024x512 squeezes_S1x1024x512_S1024x512)
      (Rect.unit (s := S1024x512) ![r, k] S32x128.size (inbX h)).toLoadRect (View.loadsAt_vmem h_S32x128))) Q :=
  wp_load_owns_slice (F := F) c E (m := arg2) (X := X) (s' := S1024x512)
    (r0 := Rect.unit (s := S1x1024x512) ![0, 0, 0] S1x1024x512.size inb_S1x1024x512_S1x1024x512_0_0_0) (hs := squeezes_S1x1024x512_S1024x512)
    (r := (Rect.unit (s := S1024x512) ![r, k] S32x128.size (inbX h)).toLoadRect) (Q := Q)

/-- The eight loads of the input answer its words. -/
theorem wp_loadX (X : Vec F S1x1024x512 .i8) (r k : Nat) (h : r + 448 + 32 ≤ 1024 ∧ k + 128 ≤ 512) (Q : W8 → sProp 𝕄) :
    iprop(owns (c : Thread nD τ) arg2 fullShare X ∗ (owns (c : Thread nD τ) arg2 fullShare X -∗ Q (words X r k h)))
      ⊢ wp frame (wpE (defs₀ (F := F)) Variants.none c none) E (loadX arg2 r k h) Q := by
  unfold loadX words word
  dsimp only
  iintro ⟨H, HQ⟩
  iapply wp_seq; iapply wp_loadX1 c E X; isplitl [H]; · iexact H
  iintro H
  iapply wp_seq; iapply wp_loadX1 c E X; isplitl [H]; · iexact H
  iintro H
  iapply wp_seq; iapply wp_loadX1 c E X; isplitl [H]; · iexact H
  iintro H
  iapply wp_seq; iapply wp_loadX1 c E X; isplitl [H]; · iexact H
  iintro H
  iapply wp_seq; iapply wp_loadX1 c E X; isplitl [H]; · iexact H
  iintro H
  iapply wp_seq; iapply wp_loadX1 c E X; isplitl [H]; · iexact H
  iintro H
  iapply wp_seq; iapply wp_loadX1 c E X; isplitl [H]; · iexact H
  iintro H
  iapply wp_seq; iapply wp_loadX1 c E X; isplitl [H]; · iexact H
  iintro H
  rw [wp_pure]
  imodintro
  iapply HQ
  iexact H

/-- A load of every eighth row of a page. -/
theorem wp_loadS (m : Memref sig .tc .vmem S8x128x128 .i32) (D : IVec S8x128x128 32) (u : Nat) (hu : u < 8) (r : Nat) (h : r + 56 < 128) (Q : Vec F S8x128 .i32 → sProp 𝕄) :
    iprop(owns (Val := Elt F) (c : Thread nD τ) m fullShare D ∗ (owns (Val := Elt F) (c : Thread nD τ) m fullShare D -∗ Q (fun i => D (sIdx u hu r h i))))
      ⊢ wp frame (wpE (defs₀ (F := F)) Variants.none c none) E (loadS m u hu r h) Q := by
  unfold loadS page
  exact wp_load_owns_slice (F := F) (e := .i32) c E (m := m) (X := D) (s' := S128x128)
    (r0 := Rect.unit (s := S8x128x128) ![u, 0, 0] S1x128x128.size (inbP hu)) (hs := squeezes_S1x128x128_S128x128)
    (r := (⟨![r, 0], S8x128.size, ![8, 1], inbS h⟩ : LoadRect S128x128)) (Q := Q)

/-- The eight loads of a page answer its interleaved rows. -/
theorem wp_loadW (m : Memref sig .tc .vmem S8x128x128 .i32) (D : IVec S8x128x128 32) (u : Nat) (hu : u < 8) (r : Nat) (h : r + 64 ≤ 128) (Q : W8 → sProp 𝕄) :
    iprop(owns (Val := Elt F) (c : Thread nD τ) m fullShare D ∗ (owns (Val := Elt F) (c : Thread nD τ) m fullShare D -∗ Q (rows D u hu r h)))
      ⊢ wp frame (wpE (defs₀ (F := F)) Variants.none c none) E (loadW m u hu r h) Q := by
  unfold loadW rows
  iintro ⟨H, HQ⟩
  iapply wp_seq; iapply wp_loadS c E m D; isplitl [H]; · iexact H
  iintro H
  iapply wp_seq; iapply wp_loadS c E m D; isplitl [H]; · iexact H
  iintro H
  iapply wp_seq; iapply wp_loadS c E m D; isplitl [H]; · iexact H
  iintro H
  iapply wp_seq; iapply wp_loadS c E m D; isplitl [H]; · iexact H
  iintro H
  iapply wp_seq; iapply wp_loadS c E m D; isplitl [H]; · iexact H
  iintro H
  iapply wp_seq; iapply wp_loadS c E m D; isplitl [H]; · iexact H
  iintro H
  iapply wp_seq; iapply wp_loadS c E m D; isplitl [H]; · iexact H
  iintro H
  iapply wp_seq; iapply wp_loadS c E m D; isplitl [H]; · iexact H
  iintro H
  rw [wp_pure]
  imodintro
  iapply HQ
  iexact H

/-- A store at every eighth row of a page. -/
theorem wp_storeS (m : Memref sig .tc .vmem S8x128x128 .i32) (D : IVec S8x128x128 32) (u : Nat) (hu : u < 8) (r : Nat) (h : r + 56 < 128) (w : IVec S8x128 32) (Q : PUnit → sProp 𝕄) :
    iprop(owns (Val := Elt F) (c : Thread nD τ) m fullShare D ∗ (owns (Val := Elt F) (c : Thread nD τ) m fullShare (putS u hu r h w D) -∗ Q ⟨⟩))
      ⊢ wp frame (wpE (defs₀ (F := F)) Variants.none c none) E (storeS m u hu r h w) Q := by
  unfold storeS
  iintro ⟨H, HQ⟩
  iapply wp_seq; iapply wp_loadS c E m D; isplitl [H]; · iexact H
  iintro H
  unfold page
  iapply wp_store_owns_slice (X := D); isplitl [H]; · iexact H
  iintro H
  iapply HQ
  iexact H

/-- The eight stores of a page. -/
theorem wp_storeW (m : Memref sig .tc .vmem S8x128x128 .i32) (D : IVec S8x128x128 32) (u : Nat) (hu : u < 8) (r : Nat) (h : r + 64 ≤ 128) (w : W8) (Q : PUnit → sProp 𝕄) :
    iprop(owns (Val := Elt F) (c : Thread nD τ) m fullShare D ∗ (owns (Val := Elt F) (c : Thread nD τ) m fullShare (putW u hu r h w D) -∗ Q ⟨⟩))
      ⊢ wp frame (wpE (defs₀ (F := F)) Variants.none c none) E (storeW m u hu r h w) Q := by
  unfold storeW
  iintro ⟨H, HQ⟩
  iapply wp_seq; iapply wp_storeS c E m; isplitl [H]; · iexact H
  iintro H
  iapply wp_seq; iapply wp_storeS c E m; isplitl [H]; · iexact H
  iintro H
  iapply wp_seq; iapply wp_storeS c E m; isplitl [H]; · iexact H
  iintro H
  iapply wp_seq; iapply wp_storeS c E m; isplitl [H]; · iexact H
  iintro H
  iapply wp_seq; iapply wp_storeS c E m; isplitl [H]; · iexact H
  iintro H
  iapply wp_seq; iapply wp_storeS c E m; isplitl [H]; · iexact H
  iintro H
  iapply wp_seq; iapply wp_storeS c E m; isplitl [H]; · iexact H
  iintro H
  iapply wp_storeS c E m; isplitl [H]; · iexact H
  iintro H
  iapply HQ
  iexact H

/-- A store of a word's bytes in the output. -/
theorem wp_storeO (O : Vec F S1x256x2048 .i8) (r k : Nat) (h : r + 32 ≤ 256 ∧ k + 128 ≤ 2048) (hr : 4 ∣ r) (w : IVec S8x128 32) (Q : PUnit → sProp 𝕄) :
    iprop(owns (c : Thread nD τ) arg4 fullShare O ∗ (owns (c : Thread nD τ) arg4 fullShare (putO r k h w O) -∗ Q ⟨⟩))
      ⊢ wp frame (wpE (defs₀ (F := F)) Variants.none c none) E (storeO arg4 harg4 r k h hr w) Q := by
  unfold storeO
  iintro ⟨H, HQ⟩
  iapply wp_seq; iapply wp_load_owns_slice (X := O); isplitl [H]; · iexact H
  iintro H
  iapply wp_store_owns (X := O); isplitl [H]; · iexact H
  iintro H
  iapply HQ
  iexact H

/-- The eight stores of the output. -/
theorem wp_storeO8 (O : Vec F S1x256x2048 .i8) (r k : Nat) (h : r + 32 ≤ 256 ∧ k + 1024 ≤ 2048) (hr : 4 ∣ r) (w : W8) (Q : PUnit → sProp 𝕄) :
    iprop(owns (c : Thread nD τ) arg4 fullShare O ∗ (owns (c : Thread nD τ) arg4 fullShare (putO8 r k h w O) -∗ Q ⟨⟩))
      ⊢ wp frame (wpE (defs₀ (F := F)) Variants.none c none) E (storeO8 arg4 harg4 r k h hr w) Q := by
  unfold storeO8
  iintro ⟨H, HQ⟩
  iapply wp_seq; iapply wp_storeO c E; isplitl [H]; · iexact H
  iintro H
  iapply wp_seq; iapply wp_storeO c E; isplitl [H]; · iexact H
  iintro H
  iapply wp_seq; iapply wp_storeO c E; isplitl [H]; · iexact H
  iintro H
  iapply wp_seq; iapply wp_storeO c E; isplitl [H]; · iexact H
  iintro H
  iapply wp_seq; iapply wp_storeO c E; isplitl [H]; · iexact H
  iintro H
  iapply wp_seq; iapply wp_storeO c E; isplitl [H]; · iexact H
  iintro H
  iapply wp_seq; iapply wp_storeO c E; isplitl [H]; · iexact H
  iintro H
  iapply wp_storeO c E; isplitl [H]; · iexact H
  iintro H
  iapply HQ
  iexact H

/-- A page transposed from one scratch buffer into the other. -/
theorem wp_phase2 (D D' : IVec S8x128x128 32) (u : Nat) (hu : u < 8) (Q : PUnit → sProp 𝕄) :
    iprop(owns (Val := Elt F) (c : Thread nD τ) arg6 fullShare D ∗ owns (Val := Elt F) (c : Thread nD τ) arg7 fullShare D'
        ∗ (owns (Val := Elt F) (c : Thread nD τ) arg6 fullShare D -∗ owns (Val := Elt F) (c : Thread nD τ) arg7 fullShare (putT u hu D D') -∗ Q ⟨⟩))
      ⊢ wp frame (wpE (defs₀ (F := F)) Variants.none c none) E (phase2 arg6 arg7 u hu) Q := by
  unfold phase2
  iintro ⟨H, H', HQ⟩
  iapply wp_seq; iapply wp_load_owns (X := D); isplitl [H]; · iexact H
  iintro H
  iapply wp_seq; iapply wp_load_owns (X := D'); isplitl [H']; · iexact H'
  iintro H'
  iapply wp_store_owns (X := D'); isplitl [H']; · iexact H'
  iintro H'
  iapply HQ $$ H
  iexact H'

/-- What the first scratch holds after both input halves of a unit. -/
def pre (X : Vec F S1x1024x512 .i8) (t h : Nat) (ht : t < 4) (hh : h < 2) (D : IVec S8x128x128 32) : IVec S8x128x128 32 :=
  putW (2 * t + h) (by omega) (64 * 1) (by omega) (net (words X (512 * h + 32 * 1) (128 * t) (by omega))) <|
  putW (2 * t + h) (by omega) (64 * 0) (by omega) (net (words X (512 * h + 32 * 0) (128 * t) (by omega))) D

/-- What the output block holds after both output halves of a unit, the second scratch at `D`. -/
def outO (D : IVec S8x128x128 32) (t h : Nat) (ht : t < 4) (hh : h < 2) (O : Vec F S1x256x2048 .i8) : Vec F S1x256x2048 .i8 :=
  putO8 (64 * t + 32 * 1) (1024 * h) (by omega) (net (rows D (2 * t + h) (by omega) (64 * 1) (by omega))) <|
  putO8 (64 * t + 32 * 0) (1024 * h) (by omega) (net (rows D (2 * t + h) (by omega) (64 * 0) (by omega))) O

/-- One unit's triple. -/
theorem wp_unit (X : Vec F S1x1024x512 .i8) (O : Vec F S1x256x2048 .i8) (D D' : IVec S8x128x128 32) (t h : Nat) (ht : t < 4) (hh : h < 2) (Q : PUnit → sProp 𝕄) :
    iprop(owns (c : Thread nD τ) arg2 fullShare X ∗ owns (c : Thread nD τ) arg4 fullShare O
        ∗ owns (Val := Elt F) (c : Thread nD τ) arg6 fullShare D ∗ owns (Val := Elt F) (c : Thread nD τ) arg7 fullShare D'
        ∗ (owns (c : Thread nD τ) arg2 fullShare X
          -∗ owns (c : Thread nD τ) arg4 fullShare (outO (putT (2 * t + h) (by omega) (pre X t h ht hh D) D') t h ht hh O)
          -∗ owns (Val := Elt F) (c : Thread nD τ) arg6 fullShare (pre X t h ht hh D)
          -∗ owns (Val := Elt F) (c : Thread nD τ) arg7 fullShare (putT (2 * t + h) (by omega) (pre X t h ht hh D) D')
          -∗ Q ⟨⟩))
      ⊢ wp frame (wpE (defs₀ (F := F)) Variants.none c none) E (unit arg2 arg4 harg4 arg6 arg7 t h ht hh) Q := by
  unfold unit phase1 phase3 outO pre
  iintro ⟨H2, H4, H6, H7, HQ⟩
  iapply wp_seq; iapply wp_seq; iapply wp_loadX c E X; isplitl [H2]; · iexact H2
  iintro H2
  iapply wp_storeW c E arg6; isplitl [H6]; · iexact H6
  iintro H6
  iapply wp_seq; iapply wp_seq; iapply wp_loadX c E X; isplitl [H2]; · iexact H2
  iintro H2
  iapply wp_storeW c E arg6; isplitl [H6]; · iexact H6
  iintro H6
  iapply wp_seq; iapply wp_phase2 c E; isplitl [H6]; · iexact H6
  isplitl [H7]; · iexact H7
  iintro H6 H7
  iapply wp_seq; iapply wp_seq; iapply wp_loadW c E arg7; isplitl [H7]; · iexact H7
  iintro H7
  iapply wp_storeO8 c E; isplitl [H4]; · iexact H4
  iintro H4
  iapply wp_seq; iapply wp_loadW c E arg7; isplitl [H7]; · iexact H7
  iintro H7
  iapply wp_storeO8 c E; isplitl [H4]; · iexact H4
  iintro H4
  iapply HQ $$ H2 H4 H6 H7

/-- The copy's triple. -/
theorem wp_copyS {arg3 arg5 : Memref sig .tc .vmem S1x128x128 .f32} (X O : Vec F S1x128x128 .f32) (Q : PUnit → sProp 𝕄) :
    iprop(owns (c : Thread nD τ) arg3 fullShare X ∗ owns (c : Thread nD τ) arg5 fullShare O
        ∗ (owns (c : Thread nD τ) arg3 fullShare X -∗ owns (c : Thread nD τ) arg5 fullShare X -∗ Q ⟨⟩))
      ⊢ wp frame (wpE (defs₀ (F := F)) Variants.none c none) E (copyS arg3 arg5) Q := by
  have e (i : S1x128x128.Idx) : (Rect.unit (s := S1x128x128) ![0, 0, 0] S1x128x128.size inb_S1x128x128_S1x128x128_0_0_0).idx i = i := by
    funext a
    refine Fin.ext ?_
    match a with
    | 0 => exact (Nat.zero_add _).trans (Nat.one_mul _)
    | 1 => exact (Nat.zero_add _).trans (Nat.one_mul _)
    | 2 => exact (Nat.zero_add _).trans (Nat.one_mul _)
  have hp (w : Vec F S1x128x128 .f32) : put (Rect.unit (s := S1x128x128) ![0, 0, 0] S1x128x128.size inb_S1x128x128_S1x128x128_0_0_0).emb w O = w := by
    funext j
    have := put_at (Rect.unit (s := S1x128x128) ![0, 0, 0] S1x128x128.size inb_S1x128x128_S1x128x128_0_0_0).emb.injective w O j
    rwa [show (Rect.unit (s := S1x128x128) ![0, 0, 0] S1x128x128.size inb_S1x128x128_S1x128x128_0_0_0).emb j = j from e j] at this
  unfold copyS
  iintro ⟨H, H', HQ⟩
  iapply wp_seq; iapply wp_load_owns (X := X); isplitl [H]; · iexact H
  iintro H
  iapply wp_seq; iapply wp_load_owns (X := O); isplitl [H']; · iexact H'
  iintro H'
  iapply wp_store_owns (X := O); isplitl [H']; · iexact H'
  rw [hp]
  simp only [e, shapeCast_id]
  iintro H'
  iapply HQ $$ H
  iexact H'

end

end Cert.KernelIdeal.Unit
-- ==== Proof.Network.lean ====
module

public import proofs.«01_k».proof.Proof.Structure
public import Idealize.ShloMosaic.Lib.BitcastPair
public import Idealize.ShloMosaic.Lib.BitcastFour
public import Idealize.ShloMosaic.Lib.Pointwise.Index
public import Idealize.ShloMosaic.Lib.Pointwise.ElementwiseCore

@[expose] public section

noncomputable section

namespace Cert.KernelIdeal.Unit

open Idealize.ShloMosaic Cert.KernelIdeal.Gen

/-- A bit of a reinterpreted rank-2 array: bit `q` of row `a` is the source's bit at the same place down the column. -/
theorem bitcast_bit {v w R r n : Nat} (x : (⟨2, ![R, n]⟩ : Shape).Idx → BitVec v) (h : (⟨2, ![R, n]⟩ : Shape).Bitcasts v ⟨2, ![r, n]⟩ w)
    (a : Fin r) (l : Fin n) (q : Nat) (hq : q < w) (p : Fin R) (e : Nat) (he : e < v) (hp : a.val * w + q = p.val * v + e) :
    (bitcast ⟨2, ![r, n]⟩ w x h (ValueIdx.ix2 a l)).getLsbD q = (x (ValueIdx.ix2 p l)).getLsbD e := by
  have hv : 0 < v := by omega
  rw [bitcast_getLsbD x h _ q hq hv]
  have e1 : (a.val * w + q) / v = p.val := by
    rw [hp, Nat.mul_comm, Nat.mul_add_div hv, Nat.div_eq_of_lt he, Nat.add_zero]
  have e2 : (a.val * w + q) % v = e := by
    rw [hp, Nat.mul_comm, Nat.mul_add_mod, Nat.mod_eq_of_lt he]
  have er : (⟨2, ![r, n]⟩ : Shape).row (ValueIdx.ix2 a l) = a.val := rfl
  congr 1
  · congr 1
    funext c
    match c with
    | ⟨0, _⟩ => exact Fin.ext ((h.srcIdx_row _ _ _ ⟨0, Nat.succ_pos 1⟩ rfl).trans (by rw [er]; exact e1))
    | ⟨1, _⟩ => exact Fin.ext (h.srcIdx_other _ _ _ ⟨1, Nat.lt_succ_self 1⟩ (show ¬ 1 + 2 = 2 by decide))

/-- The low halves: bits below 16 are the first word's, the others the second's lower ones. -/
theorem even16_bit (a b : IVec S8x128 32) (j : S8x128.Idx) (i : Nat) (hi : i < 32) :
    (even16 a b j).getLsbD i = if i < 16 then (a j).getLsbD i else (b j).getLsbD (i - 16) := by
  unfold even16
  rw [packElementwiseI16_apply, BitVec.getLsbD_append]
  by_cases h : i < 16
  · rw [if_pos h, if_pos h, BitVec.getLsbD_setWidth, decide_eq_true h, Bool.true_and]
  · rw [if_neg h, if_neg h, BitVec.getLsbD_setWidth, decide_eq_true (by omega), Bool.true_and]

/-- A masked word beside a shifted one, bit by bit. -/
theorem mix_bit {w : Nat} (x y m k : BitVec w) (n i : Nat) (hi : i < w) (hm : m.getLsbD i = decide (i < n)) (hk : k.toNat = n) (hn : n < w) :
    (IntOp.ori (IntOp.andi x m) (IntOp.shli .vector y k)).getLsbD i = if i < n then x.getLsbD i else y.getLsbD (i - n) := by
  unfold IntOp.ori IntOp.andi IntOp.shli
  rw [if_pos (by omega), BitVec.getLsbD_or, BitVec.getLsbD_and, hm, BitVec.shiftLeft_eq', hk, BitVec.getLsbD_shiftLeft]
  by_cases h : i < n
  · simp [h, hi]
  · simp [h, hi]

/-- The mask of the low byte of a 16-bit word keeps exactly the first eight bits. -/
theorem low16 (k : Nat) (h : k < 16) : (255#16).getLsbD k = decide (k < 8) := by interval_cases k <;> rfl
/-- The mask of the low half of a byte keeps exactly the first four bits. -/
theorem low8 (k : Nat) (h : k < 8) : (15#8).getLsbD k = decide (k < 4) := by interval_cases k <;> rfl

/-- The low bytes: of each half, the lower byte is the first word's, the upper the second's lower one. -/
theorem even8_bit (a b : IVec S8x128 32) (r : Fin 8) (l : Fin 128) (i : Nat) (hi : i < 32) :
    (even8 a b (ValueIdx.ix2 r l)).getLsbD i = if i % 16 < 8 then (a (ValueIdx.ix2 r l)).getLsbD i else (b (ValueIdx.ix2 r l)).getLsbD (i - 8) := by
  unfold even8
  have hr := r.isLt
  refine (bitcast_bit (R := 16) (r := 8) (n := 128) _ _ r l i hi ⟨2 * r.val + i / 16, by omega⟩ (i % 16) (by omega) (by show r.val * 32 + i = (2 * r.val + i / 16) * 16 + i % 16; omega)).trans ?_
  refine (mix_bit _ _ _ _ 8 (i % 16) (by omega) (low16 _ (by omega)) rfl (by decide)).trans ?_
  by_cases h : i % 16 < 8
  · rw [if_pos h, if_pos h]
    exact bitcast_bit (R := 8) (r := 16) (n := 128) a _ _ l _ (by omega) r i hi (by show (2 * r.val + i / 16) * 16 + i % 16 = r.val * 32 + i; omega)
  · rw [if_neg h, if_neg h]
    exact bitcast_bit (R := 8) (r := 16) (n := 128) b _ _ l _ (by omega) r (i - 8) (by omega) (by show (2 * r.val + i / 16) * 16 + (i % 16 - 8) = r.val * 32 + (i - 8); omega)

/-- The low nibbles: of each byte, the lower nibble is the first word's, the upper the second's lower one. -/
theorem even4_bit (a b : IVec S8x128 32) (r : Fin 8) (l : Fin 128) (i : Nat) (hi : i < 32) :
    (even4 a b (ValueIdx.ix2 r l)).getLsbD i = if i % 8 < 4 then (a (ValueIdx.ix2 r l)).getLsbD i else (b (ValueIdx.ix2 r l)).getLsbD (i - 4) := by
  unfold even4
  have hr := r.isLt
  refine (bitcast_bit (R := 32) (r := 8) (n := 128) _ _ r l i hi ⟨4 * r.val + i / 8, by omega⟩ (i % 8) (by omega) (by show r.val * 32 + i = (4 * r.val + i / 8) * 8 + i % 8; omega)).trans ?_
  refine (mix_bit _ _ _ _ 4 (i % 8) (by omega) (low8 _ (by omega)) rfl (by decide)).trans ?_
  by_cases h : i % 8 < 4
  · rw [if_pos h, if_pos h]
    exact bitcast_bit (R := 8) (r := 32) (n := 128) a _ _ l _ (by omega) r i hi (by show (4 * r.val + i / 8) * 8 + i % 8 = r.val * 32 + i; omega)
  · rw [if_neg h, if_neg h]
    exact bitcast_bit (R := 8) (r := 32) (n := 128) b _ _ l _ (by omega) r (i - 4) (by omega) (by show (4 * r.val + i / 8) * 8 + (i % 8 - 4) = r.val * 32 + (i - 4); omega)

/-- The part left over: a bit of the second word, but for the places where the low parts `e` carry it away. -/
theorem odd_bit (n : Nat) (hn : n < 32) (a b e : IVec S8x128 32) (j : S8x128.Idx) (i : Nat) :
    (odd (BitVec.ofNat 32 n) a b e j).getLsbD i = ((b j).getLsbD i ^^ ((a j).getLsbD (n + i) ^^ (e j).getLsbD (n + i))) := by
  show (IntOp.xori (b j) (IntOp.shrui .vector (IntOp.xori (a j) (e j)) (BitVec.ofNat 32 n))).getLsbD i = _
  have hk : (BitVec.ofNat 32 n).toNat = n := by rw [BitVec.toNat_ofNat]; omega
  unfold IntOp.xori IntOp.shrui
  rw [if_pos (by omega), BitVec.getLsbD_xor, BitVec.ushiftRight_eq', hk, BitVec.getLsbD_ushiftRight, BitVec.getLsbD_xor]

/-- Bits of the odd output of the 16-bit exchange: the high half of the first word below, the high half of the second above. -/
theorem odd16_bit (a b : IVec S8x128 32) (j : S8x128.Idx) (i : Nat) (hi : i < 32) :
    (odd 16#32 a b (even16 a b) j).getLsbD i = if i < 16 then (a j).getLsbD (16 + i) else (b j).getLsbD i := by
  rw [odd_bit 16 (by decide)]
  by_cases h : i < 16
  · rw [even16_bit _ _ _ _ (by omega), if_pos h, if_neg (by omega), show 16 + i - 16 = i by omega]
    cases (a j).getLsbD (16 + i) <;> cases (b j).getLsbD i <;> rfl
  · rw [if_neg h, BitVec.getLsbD_of_ge (a j) (16 + i) (by omega), BitVec.getLsbD_of_ge (even16 a b j) (16 + i) (by omega)]
    cases (b j).getLsbD i <;> rfl

/-- Bits of the odd output of the 8-bit exchange: in each 16 bits, the high byte of the first word below that of the second. -/
theorem odd8_bit (a b : IVec S8x128 32) (r : Fin 8) (l : Fin 128) (i : Nat) (hi : i < 32) :
    (odd 8#32 a b (even8 a b) (ValueIdx.ix2 r l)).getLsbD i = if i % 16 < 8 then (a (ValueIdx.ix2 r l)).getLsbD (8 + i) else (b (ValueIdx.ix2 r l)).getLsbD i := by
  rw [odd_bit 8 (by decide)]
  by_cases h : i % 16 < 8
  · rw [even8_bit _ _ _ _ _ (by omega), if_pos h, if_neg (by omega), show 8 + i - 8 = i by omega]
    cases (a (ValueIdx.ix2 r l)).getLsbD (8 + i) <;> cases (b (ValueIdx.ix2 r l)).getLsbD i <;> rfl
  · rw [if_neg h]
    by_cases h2 : 8 + i < 32
    · rw [even8_bit _ _ _ _ _ h2, if_pos (by omega)]
      cases (a (ValueIdx.ix2 r l)).getLsbD (8 + i) <;> cases (b (ValueIdx.ix2 r l)).getLsbD i <;> rfl
    · rw [BitVec.getLsbD_of_ge (a (ValueIdx.ix2 r l)) (8 + i) (by omega), BitVec.getLsbD_of_ge (even8 a b (ValueIdx.ix2 r l)) (8 + i) (by omega)]
      cases (b (ValueIdx.ix2 r l)).getLsbD i <;> rfl

/-- Bits of the odd output of the 4-bit exchange: in each byte, the high nibble of the first word below that of the second. -/
theorem odd4_bit (a b : IVec S8x128 32) (r : Fin 8) (l : Fin 128) (i : Nat) (hi : i < 32) :
    (odd 4#32 a b (even4 a b) (ValueIdx.ix2 r l)).getLsbD i = if i % 8 < 4 then (a (ValueIdx.ix2 r l)).getLsbD (4 + i) else (b (ValueIdx.ix2 r l)).getLsbD i := by
  rw [odd_bit 4 (by decide)]
  by_cases h : i % 8 < 4
  · rw [even4_bit _ _ _ _ _ (by omega), if_pos h, if_neg (by omega), show 4 + i - 4 = i by omega]
    cases (a (ValueIdx.ix2 r l)).getLsbD (4 + i) <;> cases (b (ValueIdx.ix2 r l)).getLsbD i <;> rfl
  · rw [if_neg h]
    by_cases h2 : 4 + i < 32
    · rw [even4_bit _ _ _ _ _ h2, if_pos (by omega)]
      cases (a (ValueIdx.ix2 r l)).getLsbD (4 + i) <;> cases (b (ValueIdx.ix2 r l)).getLsbD i <;> rfl
    · rw [BitVec.getLsbD_of_ge (a (ValueIdx.ix2 r l)) (4 + i) (by omega), BitVec.getLsbD_of_ge (even4 a b (ValueIdx.ix2 r l)) (4 + i) (by omega)]
      cases (b (ValueIdx.ix2 r l)).getLsbD i <;> rfl

/-- Word `q` of the eight. -/
def W8.get (w : W8) (q : Nat) : IVec S8x128 32 :=
  match q with | 0 => w.a0 | 1 => w.a1 | 2 => w.a2 | 3 => w.a3 | 4 => w.a4 | 5 => w.a5 | 6 => w.a6 | _ => w.a7

set_option maxHeartbeats 4000000 in
/-- The three levels transpose the nibbles: nibble `q` of result word `p` is nibble `p` of word `q`. -/
theorem net_bit (w : W8) (r : Fin 8) (l : Fin 128) (p : Nat) (hp : p < 8) (i : Nat) (hi : i < 32) :
    ((net w).get p (ValueIdx.ix2 r l)).getLsbD i = (w.get (i / 4) (ValueIdx.ix2 r l)).getLsbD (4 * p + i % 4) := by
  interval_cases p <;> simp only [net, level4, W8.get] <;> interval_cases i <;>
    simp only [level8, level16, even4_bit, odd4_bit, even8_bit, odd8_bit, even16_bit, odd16_bit, W8.get, Nat.reduceMod, Nat.reduceDiv, Nat.reduceAdd, Nat.reduceSub,
      Nat.reduceMul, Nat.reduceLT, if_true, if_false, reduceIte, Nat.reduceLeDiff]

end Cert.KernelIdeal.Unit
-- ==== Proof.Tile.lean ====
module

public import proofs.«01_k».proof.Proof.Phases
public import proofs.«01_k».proof.Proof.Network
public import Idealize.ShloMosaic.Lib.Pipeline.Value

@[expose] public section

noncomputable section

namespace Cert.KernelIdeal.Unit

open Idealize.ShloMosaic Idealize.SL.Sem
open Cert.KernelIdeal.Gen

variable {F : FTy → Type} [FloatOps F]

/-- The input block's byte at row `a` and column `b`. -/
def xat (X : Vec F S1x1024x512 .i8) (a b : Nat) : BitVec 8 :=
  if h : a < 1024 ∧ b < 512 then X (ValueIdx.ix3 (0 : Fin 1) (⟨a, h.1⟩ : Fin 1024) (⟨b, h.2⟩ : Fin 512)) else 0

/-- An entry of the input block is the byte read at its row and column. -/
theorem xat_eq (X : Vec F S1x1024x512 .i8) (j : S1x1024x512.Idx) : X j = xat X (j 1).val (j 2).val := by
  unfold xat
  have h1 : (j 1).val < 1024 := (j 1).isLt
  have h2 : (j 2).val < 512 := (j 2).isLt
  rw [dif_pos ⟨h1, h2⟩]
  refine congrArg X (funext fun a => ?_)
  match a with
  | 0 => exact Fin.ext (by have : (j 0).val < 1 := (j 0).isLt
                           show (j 0).val = 0; omega)
  | 1 => rfl
  | 2 => rfl

/-- The row of an entry of a loaded tile in the input block. -/
theorem xIdx_1 (r c : Nat) (h : r + 32 ≤ 1024 ∧ c + 128 ≤ 512) (i : S32x128.Idx) : (xIdx r c h i 1).val = r + (i 0).val := by
  unfold xIdx
  rw [Shape.reshapeEquiv_cons_one (n := 2) (d := ![1024, 512])]
  show 0 + 1 * (r + 1 * (i 0).val) = _
  omega

/-- The column of an entry of a loaded tile in the input block. -/
theorem xIdx_2 (r c : Nat) (h : r + 32 ≤ 1024 ∧ c + 128 ≤ 512) (i : S32x128.Idx) : (xIdx r c h i 2).val = c + (i 1).val := by
  unfold xIdx
  rw [Shape.reshapeEquiv_cons_one (n := 2) (d := ![1024, 512])]
  show 0 + 1 * (c + 1 * (i 1).val) = _
  omega

/-- A bit of a word of the input. -/
theorem word_bit (X : Vec F S1x1024x512 .i8) (r c : Nat) (h : r + 32 ≤ 1024 ∧ c + 128 ≤ 512) (s : Fin 8) (l : Fin 128) (i : Nat) (hi : i < 32) :
    (word X r c h (ValueIdx.ix2 s l)).getLsbD i = (xat X (r + 4 * s.val + i / 8) (c + l.val)).getLsbD (i % 8) := by
  unfold word
  have hs := s.isLt
  refine (bitcast_bit (R := 32) (r := 8) (n := 128) _ _ s l i hi ⟨4 * s.val + i / 8, by omega⟩ (i % 8) (by omega) (by show s.val * 32 + i = (4 * s.val + i / 8) * 8 + i % 8; omega)).trans ?_
  rw [xat_eq X, xIdx_1, xIdx_2]
  show (xat X (r + (4 * s.val + i / 8)) (c + l.val)).getLsbD (i % 8) = _
  rw [show r + (4 * s.val + i / 8) = r + 4 * s.val + i / 8 by omega]

/-- Each word a unit loads is made of four consecutive bytes of a column of the input block. -/
theorem words_get (X : Vec F S1x1024x512 .i8) (r c : Nat) (h : r + 448 + 32 ≤ 1024 ∧ c + 128 ≤ 512) (q : Nat) (hq : q < 8) :
    (words X r c h).get q = word X (r + 64 * q) c (by omega) := by
  interval_cases q <;> rfl

/-- A bit of an exchanged word of the input. -/
theorem net_words_bit (X : Vec F S1x1024x512 .i8) (r c : Nat) (h : r + 448 + 32 ≤ 1024 ∧ c + 128 ≤ 512) (p : Nat) (hp : p < 8) (s : Fin 8) (l : Fin 128) (i : Nat) (hi : i < 32) :
    ((net (words X r c h)).get p (ValueIdx.ix2 s l)).getLsbD i
      = (xat X (r + 64 * (i / 4) + 4 * s.val + p / 2) (c + l.val)).getLsbD (4 * (p % 2) + i % 4) := by
  rw [net_bit _ s l p hp i hi, words_get _ _ _ _ _ (by omega), word_bit _ _ _ _ _ _ _ (by omega)]
  rw [show (4 * p + i % 4) / 8 = p / 2 by omega, show (4 * p + i % 4) % 8 = 4 * (p % 2) + i % 4 by omega]

/-! ## The scratch pages -/

/-- The place of an entry of a strided store in the scratch buffer, by coordinates. -/
theorem sIdx_eq (u : Nat) (hu : u < 8) (r : Nat) (h : r + 56 < 128) (i : S8x128.Idx) :
    sIdx u hu r h i = ValueIdx.ix3 (⟨u, hu⟩ : Fin 8) (⟨r + 8 * (i 0).val, by have : (i 0).val < 8 := (i 0).isLt; omega⟩ : Fin 128) (i 1 : Fin 128) := by
  unfold sIdx
  rw [Shape.reshapeEquiv_cons_one (n := 2) (d := ![128, 128])]
  funext a
  match a with
  | 0 => exact Fin.ext (show u + 1 * 0 = u by omega)
  | 1 => exact Fin.ext (show 0 + 1 * (r + 8 * (i 0).val) = r + 8 * (i 0).val by omega)
  | 2 => exact Fin.ext (show 0 + 1 * (0 + 1 * (i 1).val) = (i 1).val by omega)

/-- A strided store sends no two entries to the same place. -/
theorem sIdx_injective (u : Nat) (hu : u < 8) (r : Nat) (h : r + 56 < 128) : Function.Injective (sIdx u hu r h) := fun a b e => by
  unfold sIdx at e
  have e1 := (Shape.reshapeEquiv squeezes_S1x128x128_S128x128.numel_eq).injective ((Rect.unit (s := S8x128x128) ![u, 0, 0] S1x128x128.size (inbP hu)).emb.injective e)
  funext x
  have e2 := congrArg (fun f : S128x128.Idx => (f x).val) e1
  match x with
  | 0 => exact Fin.ext (by have : r + 8 * (a 0).val = r + 8 * (b 0).val := e2
                           omega)
  | 1 => exact Fin.ext (by have : 0 + 1 * (a 1).val = 0 + 1 * (b 1).val := e2
                           omega)

/-- Where a word was stored. -/
theorem putS_hit (u : Nat) (hu : u < 8) (r : Nat) (h : r + 56 < 128) (w : IVec S8x128 32) (D : IVec S8x128x128 32) (j : S8x128x128.Idx)
    (h0 : (j 0).val = u) (s : Fin 8) (h1 : (j 1).val = r + 8 * s.val) (l : Fin 128) (h2 : (j 2).val = l.val) : putS u hu r h w D j = w (ValueIdx.ix2 s l) := by
  have e : j = sIdx u hu r h (ValueIdx.ix2 s l) := by
    rw [sIdx_eq]
    funext a
    match a with
    | 0 => exact Fin.ext h0
    | 1 => exact Fin.ext h1
    | 2 => exact Fin.ext h2
  unfold putS
  rw [shapeCast_id]
  exact (congrArg _ e).trans (put_at (sIdx_injective u hu r h) _ _ _)

/-- Where it was not. -/
theorem putS_miss (u : Nat) (hu : u < 8) (r : Nat) (h : r + 56 < 128) (w : IVec S8x128 32) (D : IVec S8x128x128 32) (j : S8x128x128.Idx)
    (hj : (j 0).val = u → r ≤ (j 1).val → (j 1).val < r + 64 → ((j 1).val - r) % 8 ≠ 0) : putS u hu r h w D j = D j := by
  unfold putS
  refine put_off _ _ (fun a ha => ?_)
  rw [sIdx_eq] at ha
  subst ha
  have h8 : (a 0).val < 8 := (a 0).isLt
  refine hj rfl ?_ ?_ ?_
  · show r ≤ r + 8 * (a 0).val; omega
  · show r + 8 * (a 0).val < r + 64; omega
  · show (r + 8 * (a 0).val - r) % 8 = 0; omega

/-- Where the eight words were stored. -/
theorem putW_hit (u : Nat) (hu : u < 8) (r : Nat) (h : r + 64 ≤ 128) (w : W8) (D : IVec S8x128x128 32) (j : S8x128x128.Idx)
    (h0 : (j 0).val = u) (s : Fin 8) (p : Nat) (hp : p < 8) (h1 : (j 1).val = r + 8 * s.val + p) (l : Fin 128) (h2 : (j 2).val = l.val) :
    putW u hu r h w D j = w.get p (ValueIdx.ix2 s l) := by
  unfold putW
  interval_cases p
  · iterate 7 rw [putS_miss _ _ _ _ _ _ _ (by omega)]
    exact putS_hit _ _ _ _ _ _ _ h0 s (by omega) l h2
  · iterate 6 rw [putS_miss _ _ _ _ _ _ _ (by omega)]
    exact putS_hit _ _ _ _ _ _ _ h0 s (by omega) l h2
  · iterate 5 rw [putS_miss _ _ _ _ _ _ _ (by omega)]
    exact putS_hit _ _ _ _ _ _ _ h0 s (by omega) l h2
  · iterate 4 rw [putS_miss _ _ _ _ _ _ _ (by omega)]
    exact putS_hit _ _ _ _ _ _ _ h0 s (by omega) l h2
  · iterate 3 rw [putS_miss _ _ _ _ _ _ _ (by omega)]
    exact putS_hit _ _ _ _ _ _ _ h0 s (by omega) l h2
  · iterate 2 rw [putS_miss _ _ _ _ _ _ _ (by omega)]
    exact putS_hit _ _ _ _ _ _ _ h0 s (by omega) l h2
  · rw [putS_miss _ _ _ _ _ _ _ (by omega)]
    exact putS_hit _ _ _ _ _ _ _ h0 s (by omega) l h2
  · exact putS_hit _ _ _ _ _ _ _ h0 s (by omega) l h2

/-- Where they were not. -/
theorem putW_miss (u : Nat) (hu : u < 8) (r : Nat) (h : r + 64 ≤ 128) (w : W8) (D : IVec S8x128x128 32) (j : S8x128x128.Idx)
    (hj : (j 1).val < r ∨ r + 64 ≤ (j 1).val) : putW u hu r h w D j = D j := by
  unfold putW
  iterate 8 rw [putS_miss _ _ _ _ _ _ _ (by omega)]

/-- The first scratch's page after both input halves. -/
theorem pre_bit (X : Vec F S1x1024x512 .i8) (t h : Nat) (ht : t < 4) (hh : h < 2) (D : IVec S8x128x128 32) (j : S8x128x128.Idx)
    (h0 : (j 0).val = 2 * t + h) (l : Fin 128) (h2 : (j 2).val = l.val) (i : Nat) (hi : i < 32) :
    (pre X t h ht hh D j).getLsbD i = (xat X (512 * h + 64 * (i / 4) + (j 1).val / 2) (128 * t + l.val)).getLsbD (4 * ((j 1).val % 2) + i % 4) := by
  have hj : (j 1).val < 128 := (j 1).isLt
  unfold pre
  by_cases hc : (j 1).val < 64
  · rw [putW_miss _ _ _ _ _ _ _ (by omega),
      putW_hit _ _ _ _ _ _ _ h0 ⟨(j 1).val / 8, by omega⟩ ((j 1).val % 8) (by omega) (by show (j 1).val = 64 * 0 + 8 * ((j 1).val / 8) + (j 1).val % 8; omega) l h2,
      net_words_bit _ _ _ _ _ (by omega) _ _ _ hi]
    rw [show 512 * h + 32 * 0 + 64 * (i / 4) + 4 * ((j 1).val / 8) + (j 1).val % 8 / 2 = 512 * h + 64 * (i / 4) + (j 1).val / 2 by omega,
      show (j 1).val % 8 % 2 = (j 1).val % 2 by omega]
  · rw [putW_hit _ _ _ _ _ _ _ h0 ⟨((j 1).val - 64) / 8, by omega⟩ ((j 1).val % 8) (by omega) (by show (j 1).val = 64 * 1 + 8 * (((j 1).val - 64) / 8) + (j 1).val % 8; omega) l h2,
      net_words_bit _ _ _ _ _ (by omega) _ _ _ hi]
    rw [show 512 * h + 32 * 1 + 64 * (i / 4) + 4 * (((j 1).val - 64) / 8) + (j 1).val % 8 / 2 = 512 * h + 64 * (i / 4) + (j 1).val / 2 by omega,
      show (j 1).val % 8 % 2 = (j 1).val % 2 by omega]

/-- Adding a leading axis of size one to a 128 by 128 page keeps the coordinates. -/
theorem cast3 (a b : Fin 128) : Shape.reshapeEquiv (s := S128x128) (s' := S1x128x128) shapeCasts_S128x128_S1x128x128 (ValueIdx.ix3 (0 : Fin 1) a b) = ValueIdx.ix2 a b :=
  Shape.reshapeEquiv_eq_of_rowMajor (s := S128x128) (s' := S1x128x128) _ (by
    rw [Shape.rowMajor_val_three, Shape.rowMajor_val_two]; show a.val * 128 + b.val = (0 * 128 + a.val) * 128 + b.val; omega)

/-- Dropping the leading axis of size one of a page keeps the coordinates. -/
theorem cast2 (a b : Fin 128) : Shape.reshapeEquiv (s := S1x128x128) (s' := S128x128) shapeCasts_S1x128x128_S128x128 (ValueIdx.ix2 a b) = ValueIdx.ix3 (0 : Fin 1) a b :=
  Shape.reshapeEquiv_eq_of_rowMajor (s := S1x128x128) (s' := S128x128) _ (by
    rw [Shape.rowMajor_val_three, Shape.rowMajor_val_two]; show (0 * 128 + a.val) * 128 + b.val = a.val * 128 + b.val; omega)

/-- The place of an entry of a unit's page in the scratch buffer. -/
theorem pageIdx (u : Nat) (hu : u < 8) (a b : Fin 128) :
    (Rect.unit (s := S8x128x128) ![u, 0, 0] S1x128x128.size (inbP hu)).emb (ValueIdx.ix3 (0 : Fin 1) a b) = ValueIdx.ix3 (⟨u, hu⟩ : Fin 8) a b := by
  funext x
  match x with
  | 0 => exact Fin.ext (show u + 1 * 0 = u by omega)
  | 1 => exact Fin.ext (show 0 + 1 * a.val = a.val by omega)
  | 2 => exact Fin.ext (show 0 + 1 * b.val = b.val by omega)

/-- The transposed page. -/
theorem putT_hit (u : Nat) (hu : u < 8) (D D' : IVec S8x128x128 32) (a b : Fin 128) :
    putT u hu D D' (ValueIdx.ix3 (⟨u, hu⟩ : Fin 8) a b) = D (ValueIdx.ix3 (⟨u, hu⟩ : Fin 8) b a) := by
  unfold putT
  rw [← pageIdx u hu a b]
  refine (put_at (Rect.unit (s := S8x128x128) ![u, 0, 0] S1x128x128.size (inbP hu)).emb.injective _ _ _).trans ?_
  rw [Pointwise.shapeCast_apply]
  refine (congrArg _ (cast3 a b)).trans ?_
  refine (transpose_apply _ _ _ (ValueIdx.ix2 a b) (ValueIdx.ix2 b a) (fun x => by match x with | 0 => rfl | 1 => rfl)).trans ?_
  rw [Pointwise.shapeCast_apply]
  refine (congrArg (fun v => D ((Rect.unit (s := S8x128x128) ![u, 0, 0] S1x128x128.size (inbP hu)).idx v)) (cast2 b a)).trans ?_
  exact congrArg D (pageIdx u hu b a)

/-- Each strided load of a page reads every eighth row. -/
theorem rows_get (D : IVec S8x128x128 32) (u : Nat) (hu : u < 8) (r : Nat) (h : r + 64 ≤ 128) (p : Nat) (hp : p < 8) :
    (rows D u hu r h).get p = fun i => D (sIdx u hu (r + p) (by omega) i) := by
  interval_cases p <;> rfl

/-! ## The output block -/

/-- Adding a leading axis of size one to an output tile keeps the coordinates. -/
theorem castO_lt (a : Fin 32) (b : Fin 128) : Shape.reshapeEquiv (s := S32x128) (s' := S1x32x128) shapeCasts_S32x128_S1x32x128 (ValueIdx.ix3 (0 : Fin 1) a b) = ValueIdx.ix2 a b :=
  Shape.reshapeEquiv_eq_of_rowMajor (s := S32x128) (s' := S1x32x128) _ (by
    rw [Shape.rowMajor_val_three, Shape.rowMajor_val_two]; show a.val * 128 + b.val = (0 * 32 + a.val) * 128 + b.val; omega)

/-- Where a word's bytes were stored, bit by bit. -/
theorem putO_hit (r c : Nat) (h : r + 32 ≤ 256 ∧ c + 128 ≤ 2048) (w : IVec S8x128 32) (O : Vec F S1x256x2048 .i8) (j : S1x256x2048.Idx)
    (s : Fin 8) (l : Fin 128) (b : Nat) (hb : b < 4) (h1 : (j 1).val = r + 4 * s.val + b) (h2 : (j 2).val = c + l.val) (e : Nat) (he : e < 8) :
    (putO r c h w O j : BitVec 8).getLsbD e = (w (ValueIdx.ix2 s l)).getLsbD (8 * b + e) := by
  have hs := s.isLt
  have ej : j = (Rect.unit (s := S1x256x2048) ![0, r, c] S1x32x128.size (inbO h)).emb (ValueIdx.ix3 (0 : Fin 1) (⟨4 * s.val + b, by omega⟩ : Fin 32) l) := by
    funext x
    match x with
    | 0 => exact Fin.ext (by have : (j 0).val < 1 := (j 0).isLt
                             show (j 0).val = 0 + 1 * 0; omega)
    | 1 => exact Fin.ext (show (j 1).val = r + 1 * (4 * s.val + b) by omega)
    | 2 => exact Fin.ext (show (j 2).val = c + 1 * l.val by omega)
  unfold putO
  rw [ej]
  refine (congrArg (fun v : BitVec 8 => v.getLsbD e) (put_at (Rect.unit (s := S1x256x2048) ![0, r, c] S1x32x128.size (inbO h)).emb.injective _ _ _)).trans ?_
  refine (congrArg (fun v : S32x128.Idx => (bitcast S32x128 8 w bitcasts_S8x128_w32_S32x128_w8 v).getLsbD e) (castO_lt _ l)).trans ?_
  exact bitcast_bit (R := 8) (r := 32) (n := 128) w _ _ l e he s (8 * b + e) (by omega) (by show (4 * s.val + b) * 8 + e = s.val * 32 + (8 * b + e); omega)

/-- Where they were not. -/
theorem putO_miss (r c : Nat) (h : r + 32 ≤ 256 ∧ c + 128 ≤ 2048) (w : IVec S8x128 32) (O : Vec F S1x256x2048 .i8) (j : S1x256x2048.Idx)
    (hj : (j 1).val < r ∨ r + 32 ≤ (j 1).val ∨ (j 2).val < c ∨ c + 128 ≤ (j 2).val) : putO r c h w O j = O j := by
  unfold putO
  refine put_off _ _ (fun a ha => ?_)
  have e1 : r + 1 * (a 1).val = (j 1).val := congrArg (fun f : S1x256x2048.Idx => (f 1).val) ha
  have e2 : c + 1 * (a 2).val = (j 2).val := congrArg (fun f : S1x256x2048.Idx => (f 2).val) ha
  have h1 : (a 1).val < 32 := (a 1).isLt
  have h2 : (a 2).val < 128 := (a 2).isLt
  omega

/-- Where eight words' bytes were stored. -/
theorem putO8_hit (r c : Nat) (h : r + 32 ≤ 256 ∧ c + 1024 ≤ 2048) (w : W8) (O : Vec F S1x256x2048 .i8) (j : S1x256x2048.Idx)
    (s : Fin 8) (l : Fin 128) (b : Nat) (hb : b < 4) (p : Nat) (hp : p < 8) (h1 : (j 1).val = r + 4 * s.val + b) (h2 : (j 2).val = c + 128 * p + l.val) (e : Nat) (he : e < 8) :
    (putO8 r c h w O j : BitVec 8).getLsbD e = (w.get p (ValueIdx.ix2 s l)).getLsbD (8 * b + e) := by
  have hl := l.isLt
  unfold putO8
  interval_cases p
  · iterate 7 rw [putO_miss _ _ _ _ _ _ (by omega)]
    exact putO_hit _ _ _ _ _ _ s l b hb h1 h2 e he
  · iterate 6 rw [putO_miss _ _ _ _ _ _ (by omega)]
    exact putO_hit _ _ _ _ _ _ s l b hb h1 h2 e he
  · iterate 5 rw [putO_miss _ _ _ _ _ _ (by omega)]
    exact putO_hit _ _ _ _ _ _ s l b hb h1 h2 e he
  · iterate 4 rw [putO_miss _ _ _ _ _ _ (by omega)]
    exact putO_hit _ _ _ _ _ _ s l b hb h1 h2 e he
  · iterate 3 rw [putO_miss _ _ _ _ _ _ (by omega)]
    exact putO_hit _ _ _ _ _ _ s l b hb h1 h2 e he
  · iterate 2 rw [putO_miss _ _ _ _ _ _ (by omega)]
    exact putO_hit _ _ _ _ _ _ s l b hb h1 h2 e he
  · rw [putO_miss _ _ _ _ _ _ (by omega)]
    exact putO_hit _ _ _ _ _ _ s l b hb h1 h2 e he
  · exact putO_hit _ _ _ _ _ _ s l b hb h1 h2 e he

/-- Where they were not. -/
theorem putO8_miss (r c : Nat) (h : r + 32 ≤ 256 ∧ c + 1024 ≤ 2048) (w : W8) (O : Vec F S1x256x2048 .i8) (j : S1x256x2048.Idx)
    (hj : (j 1).val < r ∨ r + 32 ≤ (j 1).val ∨ (j 2).val < c ∨ c + 1024 ≤ (j 2).val) : putO8 r c h w O j = O j := by
  unfold putO8
  iterate 8 rw [putO_miss _ _ _ _ _ _ (by omega)]

/-- Two bytes' nibbles number `e` in one byte. -/
def nib (x y : BitVec 8) (e : Nat) : BitVec 8 := ((x >>> (4 * e)) &&& 15#8) ||| (((y >>> (4 * e)) &&& 15#8) <<< 4)

/-- Bits of the byte made of one nibble of each of two bytes. -/
theorem nib_bit (x y : BitVec 8) (e i : Nat) (hi : i < 8) :
    (nib x y e).getLsbD i = if i < 4 then x.getLsbD (4 * e + i) else y.getLsbD (4 * e + (i - 4)) := by
  have m (k : Nat) (hk : k < 8) : (15#8).getLsbD k = decide (k < 4) := by interval_cases k <;> rfl
  unfold nib
  rw [BitVec.getLsbD_or, BitVec.getLsbD_and, BitVec.getLsbD_shiftLeft, BitVec.getLsbD_and, BitVec.getLsbD_ushiftRight, BitVec.getLsbD_ushiftRight, m _ hi, m _ (by omega)]
  by_cases h : i < 4
  · simp [h]
  · rw [if_neg h, decide_eq_false h, decide_eq_true hi, decide_eq_true (by omega : i - 4 < 4)]; simp

/-- What the body leaves in the output block. -/
def specO (X : Vec F S1x1024x512 .i8) : Vec F S1x256x2048 .i8 := fun j =>
  (nib (xat X ((j 2).val / 2) (2 * (j 1).val)) (xat X ((j 2).val / 2) (2 * (j 1).val + 1)) ((j 2).val % 2) : BitVec 8)

/-- The tile of the output one unit writes. -/
def inTile (t h : Nat) (j : S1x256x2048.Idx) : Prop := 64 * t ≤ (j 1).val ∧ (j 1).val < 64 * t + 64 ∧ 1024 * h ≤ (j 2).val ∧ (j 2).val < 1024 * h + 1024

/-- One half of what a unit writes, bit by bit. -/
theorem half_bit (X : Vec F S1x1024x512 .i8) (t h : Nat) (ht : t < 4) (hh : h < 2) (D D' : IVec S8x128x128 32) (k : Nat) (hk : k < 2)
    (hr : 64 * t + 32 * k + 32 ≤ 256 ∧ 1024 * h + 1024 ≤ 2048) (hk' : 64 * k + 64 ≤ 128) (O : Vec F S1x256x2048 .i8) (j : S1x256x2048.Idx)
    (h1 : 64 * t + 32 * k ≤ (j 1).val ∧ (j 1).val < 64 * t + 32 * k + 32) (h2 : 1024 * h ≤ (j 2).val ∧ (j 2).val < 1024 * h + 1024) :
    putO8 (64 * t + 32 * k) (1024 * h) hr (net (rows (putT (2 * t + h) (by omega) (pre X t h ht hh D) D') (2 * t + h) (by omega) (64 * k) hk')) O j = specO X j := by
  apply BitVec.eq_of_getLsbD_eq
  intro e he
  unfold specO
  rw [nib_bit _ _ _ _ he]
  generalize hn : (j 1).val = n at *
  generalize hm : (j 2).val = m at *
  rw [putO8_hit _ _ _ _ _ _ (⟨(n - (64 * t + 32 * k)) / 4, by omega⟩ : Fin 8) (⟨m % 128, by omega⟩ : Fin 128) (n % 4) (by omega) (m % 1024 / 128) (by omega)
    (by rw [hn]; show n = 64 * t + 32 * k + 4 * ((n - (64 * t + 32 * k)) / 4) + n % 4; omega) (by rw [hm]; show m = 1024 * h + 128 * (m % 1024 / 128) + m % 128; omega) e he]
  rw [net_bit _ _ _ _ (by omega) _ (by omega), rows_get _ _ _ _ _ _ (by omega)]
  dsimp only
  rw [sIdx_eq]
  refine (congrArg (fun v : BitVec 32 => v.getLsbD (4 * (m % 1024 / 128) + (8 * (n % 4) + e) % 4)) (putT_hit (2 * t + h) (by omega) _ D' _ _)).trans ?_
  dsimp only
  rw [pre_bit X t h ht hh D _ rfl _ rfl _ (by omega)]
  show (xat X (512 * h + 64 * ((4 * (m % 1024 / 128) + (8 * (n % 4) + e) % 4) / 4) + m % 128 / 2)
    (128 * t + (64 * k + (8 * (n % 4) + e) / 4 + 8 * ((n - (64 * t + 32 * k)) / 4)))).getLsbD (4 * (m % 128 % 2) + (4 * (m % 1024 / 128) + (8 * (n % 4) + e) % 4) % 4) = _
  rw [show 512 * h + 64 * ((4 * (m % 1024 / 128) + (8 * (n % 4) + e) % 4) / 4) + m % 128 / 2 = m / 2 by omega]
  by_cases h4 : e < 4
  · rw [if_pos h4, show 128 * t + (64 * k + (8 * (n % 4) + e) / 4 + 8 * ((n - (64 * t + 32 * k)) / 4)) = 2 * n by omega,
      show 4 * (m % 128 % 2) + (4 * (m % 1024 / 128) + (8 * (n % 4) + e) % 4) % 4 = 4 * (m % 2) + e by omega]
  · rw [if_neg h4, show 128 * t + (64 * k + (8 * (n % 4) + e) / 4 + 8 * ((n - (64 * t + 32 * k)) / 4)) = 2 * n + 1 by omega,
      show 4 * (m % 128 % 2) + (4 * (m % 1024 / 128) + (8 * (n % 4) + e) % 4) % 4 = 4 * (m % 2) + (e - 4) by omega]

/-- What a unit leaves: the specified bytes on its tile, the old ones elsewhere. -/
theorem outO_eq (X : Vec F S1x1024x512 .i8) (t h : Nat) (ht : t < 4) (hh : h < 2) (D D' : IVec S8x128x128 32) (O : Vec F S1x256x2048 .i8) (j : S1x256x2048.Idx) :
    (inTile t h j → outO (putT (2 * t + h) (by omega) (pre X t h ht hh D) D') t h ht hh O j = specO X j)
    ∧ (¬ inTile t h j → outO (putT (2 * t + h) (by omega) (pre X t h ht hh D) D') t h ht hh O j = O j) := by
  unfold inTile outO
  refine ⟨fun ⟨a, b, c, d⟩ => ?_, fun hn => ?_⟩
  · by_cases hc : (j 1).val < 64 * t + 32
    · rw [putO8_miss _ _ _ _ _ _ (by omega)]
      exact half_bit X t h ht hh D D' 0 (by decide) _ _ O j ⟨by omega, by omega⟩ ⟨by omega, by omega⟩
    · exact half_bit X t h ht hh D D' 1 (by decide) _ _ _ j ⟨by omega, by omega⟩ ⟨by omega, by omega⟩
  · rw [putO8_miss _ _ _ _ _ _ (by omega), putO8_miss _ _ _ _ _ _ (by omega)]

end Cert.KernelIdeal.Unit
-- ==== Proof.Body.lean ====
module

public import proofs.«01_k».proof.Proof.Tile

@[expose] public section

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Contents of a scratch buffer after a unit, forgotten. -/
theorem forget {c : Dev nD} {M : Memref sig .tc .vmem S8x128x128 .i32} {D : IVec S8x128x128 32} :
    owns (Val := Elt F) (c : Thread nD τ) M fullShare D ⊢ (iprop(∃ d, owns (Val := Elt F) (c : Thread nD τ) M fullShare d) : sProp 𝕄) := by
  iintro H; iexists _; iexact H

/-- The tiles written so far, in the units' order, hold the specified bytes. -/
def Done (X : Vec F S1x1024x512 .i8) (n : Nat) (O : Vec F S1x256x2048 .i8) : Prop :=
  ∀ j : S1x256x2048.Idx, (j 1).val / 64 * 2 + (j 2).val / 1024 < n → O j = specO X j

/-- If the first units are done and one more unit writes its own tile, then one more unit is done. -/
theorem done_step (X : Vec F S1x1024x512 .i8) (t h : Nat) (ht : t < 4) (hh : h < 2) (D D' : IVec S8x128x128 32) (O : Vec F S1x256x2048 .i8)
    (hO : Done X (2 * t + h) O) : Done X (2 * t + h + 1) (outO (putT (2 * t + h) (by omega) (pre X t h ht hh D) D') t h ht hh O) := by
  intro j hj
  have b : (j 2).val < 2048 := (j 2).isLt
  by_cases hc : inTile t h j
  · exact (outO_eq X t h ht hh D D' O j).1 hc
  · rw [(outO_eq X t h ht hh D D' O j).2 hc]
    unfold inTile at hc
    exact hO j (by omega)

/-- When all eight units are done, the output block is the one the specification names. -/
theorem done_all (X : Vec F S1x1024x512 .i8) (O : Vec F S1x256x2048 .i8) (hO : Done X 8 O) : O = specO X :=
  funext fun j => hO j (by have a : (j 1).val < 256 := (j 1).isLt
                           have b : (j 2).val < 2048 := (j 2).isLt
                           omega)

section
variable (c : Dev nD) (E : _root_.Set ℕ)
variable (arg2 : Memref sig .tc .vmem S1x1024x512 .i8) (arg4 : Memref sig .tc .vmem S1x256x2048 .i8) (harg4 : arg4.IsWhole) (arg6 arg7 : Memref sig .tc .vmem S8x128x128 .i32)

/-- One unit's triple, the output known through the tiles written. -/
theorem wp_unit_done (X : Vec F S1x1024x512 .i8) (t h : Nat) (ht : t < 4) (hh : h < 2) (n : Nat) (hn : n = 2 * t + h) (Q : PUnit → sProp 𝕄) :
    iprop(owns (c : Thread nD τ) arg2 fullShare X ∗ (∃ O, ⌜Done X n O⌝ ∗ owns (c : Thread nD τ) arg4 fullShare O)
        ∗ (∃ d, owns (Val := Elt F) (c : Thread nD τ) arg6 fullShare d) ∗ (∃ d, owns (Val := Elt F) (c : Thread nD τ) arg7 fullShare d)
        ∗ (owns (c : Thread nD τ) arg2 fullShare X
          -∗ (∃ O, ⌜Done X (n + 1) O⌝ ∗ owns (c : Thread nD τ) arg4 fullShare O)
          -∗ (∃ d, owns (Val := Elt F) (c : Thread nD τ) arg6 fullShare d) -∗ (∃ d, owns (Val := Elt F) (c : Thread nD τ) arg7 fullShare d)
          -∗ Q ⟨⟩))
      ⊢ wp frame (wpE (defs₀ (F := F)) Variants.none c none) E (unit arg2 arg4 harg4 arg6 arg7 t h ht hh) Q := by
  subst hn
  iintro ⟨H2, ⟨%O, %hO, H4⟩, ⟨%D, H6⟩, ⟨%D', H7⟩, HQ⟩
  iapply wp_unit c E (X := X) (O := O) (D := D) (D' := D')
  isplitl [H2]; · iexact H2
  isplitl [H4]; · iexact H4
  isplitl [H6]; · iexact H6
  isplitl [H7]; · iexact H7
  iintro H2 H4 H6 H7
  iapply HQ $$ H2 [H4] [H6] [H7]
  · iexists _
    isplitr
    · ipureintro; exact done_step X t h ht hh D D' O hO
    iexact H4
  · iexists _; iexact H6
  · iexists _; iexact H7

/-- The whole body's triple: the output block gets the specified bytes, the other output the scales' block. -/
theorem wp_body (i : grid0.Coords) (harg2 : arg2.IsWhole) (arg3 : Memref sig .tc .vmem S1x128x128 .f32) (harg3 : arg3.IsWhole) (arg5 : Memref sig .tc .vmem S1x128x128 .f32) (harg5 : arg5.IsWhole) (harg6 : arg6.IsWhole) (harg7 : arg7.IsWhole)
    (X : Vec F S1x1024x512 .i8) (S : Vec F S1x128x128 .f32) (Q : PUnit → sProp 𝕄) :
    iprop(owns (c : Thread nD τ) arg2 fullShare X ∗ owns (c : Thread nD τ) arg3 fullShare S
        ∗ (∃ O, owns (Val := Elt F) (c : Thread nD τ) arg4 fullShare O) ∗ (∃ O, owns (Val := Elt F) (c : Thread nD τ) arg5 fullShare O)
        ∗ (∃ d, owns (Val := Elt F) (c : Thread nD τ) arg6 fullShare d) ∗ (∃ d, owns (Val := Elt F) (c : Thread nD τ) arg7 fullShare d)
        ∗ (owns (c : Thread nD τ) arg2 fullShare X -∗ owns (c : Thread nD τ) arg3 fullShare S
          -∗ owns (c : Thread nD τ) arg4 fullShare (specO X) -∗ owns (c : Thread nD τ) arg5 fullShare S
          -∗ (∃ d, owns (Val := Elt F) (c : Thread nD τ) arg6 fullShare d) -∗ (∃ d, owns (Val := Elt F) (c : Thread nD τ) arg7 fullShare d)
          -∗ Q ⟨⟩))
      ⊢ wp frame (wpE (defs₀ (F := F)) Variants.none c none) E (cc0_repack i arg2 harg2 arg3 harg3 arg4 harg4 arg5 harg5 arg6 harg6 arg7 harg7) Q := by
  rw [repack_eq]; unfold body
  iintro ⟨H2, H3, ⟨%O, H4⟩, ⟨%O', H5⟩, H6, H7, HQ⟩
  iapply wp_seq; iapply wp_copyS c E (X := S) (O := O'); isplitl [H3]; · iexact H3
  isplitl [H5]; · iexact H5
  iintro H3 H5
  iapply wp_seq
  iapply wp_unit_done c E (X := X) (n := 0) (hn := rfl)
  isplitl [H2]; · iexact H2
  isplitl [H4]
  · iexists _; isplitr
    swap; · iexact H4
    ipureintro; exact fun j hj => absurd hj (Nat.not_lt_zero _)
  isplitl [H6]; · iexact H6
  isplitl [H7]; · iexact H7
  iintro H2 H4 H6 H7
  iapply wp_seq
  iapply wp_unit_done c E (X := X) (n := 1) (hn := rfl)
  isplitl [H2]; · iexact H2
  isplitl [H4]; · iexact H4
  isplitl [H6]; · iexact H6
  isplitl [H7]; · iexact H7
  iintro H2 H4 H6 H7
  iapply wp_seq
  iapply wp_unit_done c E (X := X) (n := 2) (hn := rfl)
  isplitl [H2]; · iexact H2
  isplitl [H4]; · iexact H4
  isplitl [H6]; · iexact H6
  isplitl [H7]; · iexact H7
  iintro H2 H4 H6 H7
  iapply wp_seq
  iapply wp_unit_done c E (X := X) (n := 3) (hn := rfl)
  isplitl [H2]; · iexact H2
  isplitl [H4]; · iexact H4
  isplitl [H6]; · iexact H6
  isplitl [H7]; · iexact H7
  iintro H2 H4 H6 H7
  iapply wp_seq
  iapply wp_unit_done c E (X := X) (n := 4) (hn := rfl)
  isplitl [H2]; · iexact H2
  isplitl [H4]; · iexact H4
  isplitl [H6]; · iexact H6
  isplitl [H7]; · iexact H7
  iintro H2 H4 H6 H7
  iapply wp_seq
  iapply wp_unit_done c E (X := X) (n := 5) (hn := rfl)
  isplitl [H2]; · iexact H2
  isplitl [H4]; · iexact H4
  isplitl [H6]; · iexact H6
  isplitl [H7]; · iexact H7
  iintro H2 H4 H6 H7
  iapply wp_seq
  iapply wp_unit_done c E (X := X) (n := 6) (hn := rfl)
  isplitl [H2]; · iexact H2
  isplitl [H4]; · iexact H4
  isplitl [H6]; · iexact H6
  isplitl [H7]; · iexact H7
  iintro H2 H4 H6 H7
  iapply wp_unit_done c E (X := X) (n := 7) (hn := rfl)
  isplitl [H2]; · iexact H2
  isplitl [H4]; · iexact H4
  isplitl [H6]; · iexact H6
  isplitl [H7]; · iexact H7
  iintro H2 H4 H6 H7
  icases H4 with ⟨%O8, %h8, H4⟩
  rw [done_all X O8 h8]
  iapply HQ $$ H2 H3 H4 H5 H6 H7

end

end Cert.KernelIdeal.Unit
-- ==== Proof.Values.lean ====
module

public import proofs.«01_k».proof.Proof.Gen.KernelIdeal.Frame.Runs
public import proofs.«01_k».proof.Proof.Body
public import Idealize.ShloMosaic.Lib.Claim

@[expose] public section

set_option maxRecDepth 16384

noncomputable section

namespace Cert.KernelIdeal.Unit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data, the outputs at their specified contents -/

/-- The proof data: after each point the packed output's block holds the specified bytes and the other output's block the scales' block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => specO (F := F) (iblk m c 0 t)
    | ⟨3, _⟩ => iblk m c 1 t
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- A step leaves the weights block as it was. -/
theorem after0_0 (c : Dev nD) (t : Fin cfg0.N) : (dats m 0 c).after 0 t = iblk m c 0 t := by dsimp only [dats]
/-- A step leaves the scales block as it was. -/
theorem after0_1 (c : Dev nD) (t : Fin cfg0.N) : (dats m 0 c).after 1 t = iblk m c 1 t := by dsimp only [dats]
/-- A step leaves the repacked weights in the output block. -/
theorem after0_2 (c : Dev nD) (t : Fin cfg0.N) : (dats m 0 c).after 2 t = specO (F := F) (iblk m c 0 t) := by dsimp only [dats]
/-- A step leaves a copy of the scales block in the second output block. -/
theorem after0_3 (c : Dev nD) (t : Fin cfg0.N) : (dats m 0 c).after 3 t = iblk m c 1 t := by dsimp only [dats]

/-- Before a step the first window holds the weights block of that step. -/
theorem before0_0 (c : Dev nD) (t : Fin cfg0.N) (d) : (dats m 0 c).before 0 t d = iblk m c 0 t :=
  before0_0_of m (dats m 0 c) (A_eq m c 0) (after0_0 m c) t d
/-- Before a step the second window holds the scales block of that step. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point does what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply wp_body c Set.univ (X := iblk m c 0 t) (S := iblk m c 1 t)
  isplitl [H0]; · iexact H0
  isplitl [H1]; · iexact H1
  isplitl [H2]; · iexists _; iexact H2
  isplitl [H3]; · iexists _; iexact H3
  isplitl [HS0]; · iexact HS0
  isplitl [HS1]; · iexact HS1
  iintro H0 H1 H2 H3 HS0 HS1
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Unit

end
-- ==== Proof.Arrays.lean ====
module

public import proofs.«01_k».proof.Proof.Values
public import Idealize.ShloMosaic.Lib.Pipeline.ValueKit

@[expose] public section

set_option maxRecDepth 16384

noncomputable section

namespace Cert.KernelIdeal.Unit

open Idealize.ShloMosaic Idealize.ShloMosaic.TcCoe Idealize.ShloMosaic.Tactic
open Idealize.SL.Sem
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- The packed array's byte at row `a` and column `b` of a batch. -/
def wat (W : Vec F S3x1024x5632 .i8) (g a b : Nat) : BitVec 8 :=
  if h : g < 3 ∧ a < 1024 ∧ b < 5632 then W (ValueIdx.ix3 (⟨g, h.1⟩ : Fin 3) (⟨a, h.2.1⟩ : Fin 1024) (⟨b, h.2.2⟩ : Fin 5632)) else 0

/-- An entry of the packed weights is the byte read at its three coordinates. -/
theorem wat_eq (W : Vec F S3x1024x5632 .i8) (j : S3x1024x5632.Idx) : W j = wat W (j 0).val (j 1).val (j 2).val := by
  unfold wat
  have h0 : (j 0).val < 3 := (j 0).isLt
  have h1 : (j 1).val < 1024 := (j 1).isLt
  have h2 : (j 2).val < 5632 := (j 2).isLt
  rw [dif_pos ⟨h0, h1, h2⟩]
  refine congrArg W ?_
  funext a
  match a with
  | 0 => rfl
  | 1 => rfl
  | 2 => rfl

/-- The repacked array: two bytes of neighbouring columns give their nibbles of one parity to one byte. -/
def resO (W : Vec F S3x1024x5632 .i8) : Vec F S3x2816x2048 .i8 := fun j =>
  (nib (wat W (j 0).val ((j 2).val / 2) (2 * (j 1).val)) (wat W (j 0).val ((j 2).val / 2) (2 * (j 1).val + 1)) ((j 2).val % 2) : BitVec 8)

/-- The windows' block indices over the grid. -/
theorem idx_all : ∀ t : Fin grid0.N, win0_0.index t = ![(grid0.coords t 0).val, 0, (grid0.coords t 1).val]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0] := by decide +kernel

/-- The packed output's array after the run. -/
theorem arr2 (c : Dev nD) : (dats m 0 c).arrAt 2 (cfgs 0).N = resO (F := F) (m ((c : Thread nD τ).loc main_arg0)) := by
  refine (dats m 0 c).arrAt_eq_of_covers 2 _ (by decide +kernel) fun t hf y => ?_
  obtain ⟨i0, i1, i2, i3⟩ := idx_all t
  blk_simp
  rw [after0_2]
  have hy1 : (y 1).val < 256 := (y 1).isLt
  have hy2 : (y 2).val < 2048 := (y 2).isLt
  have hy0 : (y 0).val < 1 := (y 0).isLt
  have c0 : (grid0.coords t 0).val < 3 := (grid0.coords t 0).isLt
  have c1 : (grid0.coords t 1).val < 11 := (grid0.coords t 1).isLt
  have rd : ∀ a b : Nat, a < 1024 → b < 512 → xat (F := F) (iblk m c 0 t) a b
      = wat (F := F) (m ((c : Thread nD τ).loc main_arg0)) (grid0.coords t 0).val a (512 * (grid0.coords t 1).val + b) := by
    intro a b ha hb
    unfold xat
    rw [dif_pos ⟨ha, hb⟩]
    unfold iblk
    blk_simp
    rw [V_main_arg0]
    refine (wat_eq (F := F) (m ((c : Thread nD τ).loc main_arg0)) _).trans ?_
    have e0 : (((win0_0.blk t).view.emb (ValueIdx.ix3 (0 : Fin 1) (⟨a, ha⟩ : Fin 1024) (⟨b, hb⟩ : Fin 512))) 0 : ℕ) = (grid0.coords t 0).val := by
      blk_simp [i0]
    have e1 : (((win0_0.blk t).view.emb (ValueIdx.ix3 (0 : Fin 1) (⟨a, ha⟩ : Fin 1024) (⟨b, hb⟩ : Fin 512))) 1 : ℕ) = a := by
      blk_simp [i0]; rfl
    have e2 : (((win0_0.blk t).view.emb (ValueIdx.ix3 (0 : Fin 1) (⟨a, ha⟩ : Fin 1024) (⟨b, hb⟩ : Fin 512))) 2 : ℕ) = 512 * (grid0.coords t 1).val + b := by
      blk_simp [i0]; exact congrArg (· + b) (Nat.mul_comm _ _)
    rw [e0, e1, e2]
  have e0 : (((win0_2.blk t).view.emb y) 0 : ℕ) = (grid0.coords t 0).val := by blk_simp [i2]
  have e1 : (((win0_2.blk t).view.emb y) 1 : ℕ) = 256 * (grid0.coords t 1).val + (y 1).val := by blk_simp [i2]; exact congrArg (· + (y 1).val) (Nat.mul_comm _ _)
  have e2 : (((win0_2.blk t).view.emb y) 2 : ℕ) = (y 2).val := by blk_simp [i2]
  unfold specO resO
  dsimp only
  rw [e0, e1, e2, rd _ _ (by omega) (by omega), rd _ _ (by omega) (by omega),
    show 512 * (grid0.coords t 1).val + 2 * (y 1).val = 2 * (256 * (grid0.coords t 1).val + (y 1).val) by omega,
    show 512 * (grid0.coords t 1).val + (2 * (y 1).val + 1) = 2 * (256 * (grid0.coords t 1).val + (y 1).val) + 1 by omega]

/-- The copied output's array after the run. -/
theorem arr3 (c : Dev nD) : (dats m 0 c).arrAt 3 (cfgs 0).N = V m c main_v1 := by
  refine (dats m 0 c).arrAt_eq_of_covers 3 _ (by decide +kernel) fun t hf y => ?_
  obtain ⟨i0, i1, i2, i3⟩ := idx_all t
  blk_simp
  rw [after0_3]
  unfold iblk
  blk_ext [i1, i3]

/-- The scales as the kernel's call finds them. -/
theorem V_main_v1 (c : Dev nD) : V m c main_v1 = shapeCast S3x1408x128 (transpose S3x16x2x5632 [0, 1, 3, 2] (m ((c : Thread nD τ).loc main_arg1)) transposes_S3x16x5632x2_S3x16x2x5632_0_1_3_2) shapeCasts_S3x16x2x5632_S3x1408x128 := by
  entry_read
  rfl

/-- The second result after the host's last lines. -/
theorem tail_v4 (c : Dev nD) : Pipeline.afterTail₀ cfgs (dats m) 0 (V0 m) [hostOps1] c main_v4
    = transpose S3x5632x16x2 [0, 3, 1, 2] (shapeCast S3x16x2x5632 (V m c main_v1) shapeCasts_S3x1408x128_S3x16x2x5632) transposes_S3x16x2x5632_S3x5632x16x2_0_3_1_2 := by
  have e : Pipeline.withArrays (cfgs 0).spec c (V0 m c) (fun w => (dats m 0 c).arrAt w (cfgs 0).N) (Proc.devRef .tc main_v2_1) = V m c main_v1 :=
    (Pipeline.withArrays_arr (cfgs 0).spec (by decide) c (V0 m c) (fun w => (dats m 0 c).arrAt w (cfgs 0).N) 3).trans (arr3 m c)
  unfold Pipeline.afterTail₀
  generalize Pipeline.withArrays (cfgs 0).spec c (V0 m c) (fun w => (dats m 0 c).arrAt w (cfgs 0).N) = X at *
  rw [← e]
  simp only [List.flatten_cons, List.flatten_nil, List.append_nil]
  unfold hostOps1
  after_results
  rfl

end Cert.KernelIdeal.Unit

end
-- ==== Proof.Ref.lean ====
module

public import proofs.«01_k».proof.Proof.Arrays
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.ReferenceIdeal.Ref

open Cert.ReferenceIdeal Cert.ReferenceIdeal.Gen Cert.ReferenceIdeal.Read Idealize.ShloMosaic Idealize.ShloMosaic.TcCoe Idealize.SL.Sem
open Cert.KernelIdeal.Unit (wat wat_eq nib nib_bit resO)

variable {F : FTy → Type} [FloatOps F]

/-- Splitting the last axis into pairs and taking one member of each pair: the place in the unsplit array. -/
theorem place (a b c e : Nat) (ha : a < 3) (hb : b < 1024) (hc : c < 2816) (he : e < 2) :
    (((((a * 1024 + b) * 2816 + c) / 2883584 * 1024 + ((a * 1024 + b) * 2816 + c) / 2816 % 1024) * 2816 + ((a * 1024 + b) * 2816 + c) / 1 % 2816) * 2 + e) / 5767168 = a
    ∧ (((((a * 1024 + b) * 2816 + c) / 2883584 * 1024 + ((a * 1024 + b) * 2816 + c) / 2816 % 1024) * 2816 + ((a * 1024 + b) * 2816 + c) / 1 % 2816) * 2 + e) / 5632 % 1024 = b
    ∧ (((((a * 1024 + b) * 2816 + c) / 2883584 * 1024 + ((a * 1024 + b) * 2816 + c) / 2816 % 1024) * 2816 + ((a * 1024 + b) * 2816 + c) / 1 % 2816) * 2 + e) % 5632 = 2 * c + e := by
  refine ⟨?_, ?_, ?_⟩ <;> omega

/-- The low nibbles of two bytes in one byte, as 32-bit words compute it. -/
theorem nib_low (x y : BitVec 8) : (IntOp.ori (IntOp.andi (x.setWidth 32) 15#32) (IntOp.shli .host (IntOp.andi (y.setWidth 32) 15#32) 4#32)).setWidth 8 = nib x y 0 := by
  have m (k : Nat) (hk : k < 8) : (15#32).getLsbD k = decide (k < 4) := by interval_cases k <;> rfl
  apply BitVec.eq_of_getLsbD_eq
  intro i hi
  rw [nib_bit _ _ _ _ hi]
  unfold IntOp.ori IntOp.andi IntOp.shli
  rw [if_pos (by decide), BitVec.shiftLeft_eq', show (4#32).toNat = 4 from rfl, BitVec.getLsbD_setWidth, BitVec.getLsbD_or, BitVec.getLsbD_and, BitVec.getLsbD_shiftLeft, BitVec.getLsbD_and, BitVec.getLsbD_setWidth, BitVec.getLsbD_setWidth, m _ hi, m _ (by omega),
    decide_eq_true hi, decide_eq_true (by omega : i < 32)]
  by_cases h : i < 4
  · simp [h]
  · rw [if_neg h, decide_eq_false h, decide_eq_true (by omega : i - 4 < 4), decide_eq_true (by omega : i - 4 < 32)]; simp

/-- The high nibbles of two bytes in one byte, as 32-bit words compute it. -/
theorem nib_high (x y : BitVec 8) : (IntOp.ori (IntOp.shrui .host (x.setWidth 32) 4#32) (IntOp.shli .host (IntOp.shrui .host (y.setWidth 32) 4#32) 4#32)).setWidth 8 = nib x y 1 := by
  apply BitVec.eq_of_getLsbD_eq
  intro i hi
  rw [nib_bit _ _ _ _ hi]
  unfold IntOp.ori IntOp.shrui IntOp.shli
  rw [if_pos (by decide), if_pos (by decide), if_pos (by decide), BitVec.shiftLeft_eq', BitVec.ushiftRight_eq', BitVec.ushiftRight_eq', show (4#32).toNat = 4 from rfl, BitVec.getLsbD_setWidth, BitVec.getLsbD_or, BitVec.getLsbD_shiftLeft, BitVec.getLsbD_ushiftRight, BitVec.getLsbD_ushiftRight, BitVec.getLsbD_setWidth, BitVec.getLsbD_setWidth,
    decide_eq_true hi, decide_eq_true (by omega : i < 32), decide_eq_true (by omega : 4 + i < 32)]
  by_cases h : i < 4
  · simp [h]
  · rw [if_neg h, decide_eq_false h, decide_eq_true (by omega : 4 + (i - 4) < 32), BitVec.getLsbD_of_ge x (4 + i) (by omega)]; simp

/-- An array's byte by its coordinates' numbers. -/
theorem at_num (x0 : (⟨S3x1024x5632, .i8⟩ : BufTy).Contents (Elt F)) (j : S3x1024x5632.Idx) (a b c : Nat) (h0 : (j 0).val = a) (h1 : (j 1).val = b) (h2 : (j 2).val = c) :
    x0 j = wat (F := F) x0 a b c := by
  subst h0; subst h1; subst h2
  exact wat_eq (F := F) x0 j

/-- The low nibbles, even columns. -/
theorem v7_at (x0 : (⟨S3x1024x5632, .i8⟩ : BufTy).Contents (Elt F)) (i : S3x1024x2816.Idx) :
    val_main_v7 (F := F) x0 i = IntOp.andi ((wat (F := F) x0 (i 0).val (i 1).val (2 * (i 2).val)).setWidth 32) 15#32 := by
  have p := place (i 0).val (i 1).val (i 2).val 0 (i 0).isLt (i 1).isLt (i 2).isLt (by decide)
  rw [val_main_v7_apply, val_main_v6_apply, val_main_v5_apply, val_main_v2_apply, val_main_v0_apply, val_main_v1_apply, val_main_c_apply,
    at_num x0 (idx_main_v5 (idx_main_v6 (idx_main_v7 i))) (i 0).val (i 1).val (2 * (i 2).val) p.1 p.2.1 p.2.2]

/-- The low nibbles, odd columns. -/
theorem v9_at (x0 : (⟨S3x1024x5632, .i8⟩ : BufTy).Contents (Elt F)) (i : S3x1024x2816.Idx) :
    val_main_v9 (F := F) x0 i = IntOp.andi ((wat (F := F) x0 (i 0).val (i 1).val (2 * (i 2).val + 1)).setWidth 32) 15#32 := by
  have p := place (i 0).val (i 1).val (i 2).val 1 (i 0).isLt (i 1).isLt (i 2).isLt (by decide)
  rw [val_main_v9_apply, val_main_v8_apply, val_main_v5_apply, val_main_v2_apply, val_main_v0_apply, val_main_v1_apply, val_main_c_apply,
    at_num x0 (idx_main_v5 (idx_main_v8 (idx_main_v9 i))) (i 0).val (i 1).val (2 * (i 2).val + 1) p.1 p.2.1 p.2.2]

/-- The high nibbles, even columns. -/
theorem v17_at (x0 : (⟨S3x1024x5632, .i8⟩ : BufTy).Contents (Elt F)) (i : S3x1024x2816.Idx) :
    val_main_v17 (F := F) x0 i = IntOp.shrui .host ((wat (F := F) x0 (i 0).val (i 1).val (2 * (i 2).val)).setWidth 32) 4#32 := by
  have p := place (i 0).val (i 1).val (i 2).val 0 (i 0).isLt (i 1).isLt (i 2).isLt (by decide)
  rw [val_main_v17_apply, val_main_v16_apply, val_main_v15_apply, val_main_v4_apply, val_main_v0_apply, val_main_v3_apply, val_main_c_0_apply,
    at_num x0 (idx_main_v15 (idx_main_v16 (idx_main_v17 i))) (i 0).val (i 1).val (2 * (i 2).val) p.1 p.2.1 p.2.2]

/-- The high nibbles, odd columns. -/
theorem v19_at (x0 : (⟨S3x1024x5632, .i8⟩ : BufTy).Contents (Elt F)) (i : S3x1024x2816.Idx) :
    val_main_v19 (F := F) x0 i = IntOp.shrui .host ((wat (F := F) x0 (i 0).val (i 1).val (2 * (i 2).val + 1)).setWidth 32) 4#32 := by
  have p := place (i 0).val (i 1).val (i 2).val 1 (i 0).isLt (i 1).isLt (i 2).isLt (by decide)
  rw [val_main_v19_apply, val_main_v18_apply, val_main_v15_apply, val_main_v4_apply, val_main_v0_apply, val_main_v3_apply, val_main_c_0_apply,
    at_num x0 (idx_main_v15 (idx_main_v18 (idx_main_v19 i))) (i 0).val (i 1).val (2 * (i 2).val + 1) p.1 p.2.1 p.2.2]

/-- The even rows of the transposed result. -/
theorem v14_at (x0 : (⟨S3x1024x5632, .i8⟩ : BufTy).Contents (Elt F)) (i : S3x2816x1024.Idx) :
    val_main_v14 (F := F) x0 i = nib (wat (F := F) x0 (i 0).val (i 2).val (2 * (i 1).val)) (wat (F := F) x0 (i 0).val (i 2).val (2 * (i 1).val + 1)) 0 := by
  rw [val_main_v14_apply, val_main_v13_apply, val_main_v12_apply, val_main_v11_apply, v7_at, v9_at, val_main_v10_apply, val_main_c_1_apply]
  exact nib_low _ _

/-- The odd ones. -/
theorem v24_at (x0 : (⟨S3x1024x5632, .i8⟩ : BufTy).Contents (Elt F)) (i : S3x2816x1024.Idx) :
    val_main_v24 (F := F) x0 i = nib (wat (F := F) x0 (i 0).val (i 2).val (2 * (i 1).val)) (wat (F := F) x0 (i 0).val (i 2).val (2 * (i 1).val + 1)) 1 := by
  rw [val_main_v24_apply, val_main_v23_apply, val_main_v22_apply, val_main_v21_apply, v17_at, v19_at, val_main_v20_apply, val_main_c_2_apply]
  exact nib_high _ _

/-- The two interleaved. -/
theorem v27_at (x0 : (⟨S3x1024x5632, .i8⟩ : BufTy).Contents (Elt F)) (j : S3x2816x1024x2.Idx) :
    val_main_v27 (F := F) x0 j = nib (wat (F := F) x0 (j 0).val (j 2).val (2 * (j 1).val)) (wat (F := F) x0 (j 0).val (j 2).val (2 * (j 1).val + 1)) (j 3).val := by
  unfold val_main_v27
  concat_tiles i h
  · rw [val_main_v25_apply, v14_at, h, ← h0, ← h1, ← h2]
  · rw [val_main_v26_apply, v24_at, h, ← h0, ← h1, ← h2]

/-- The first result is the repacked array. -/
theorem v28_at (x0 : (⟨S3x1024x5632, .i8⟩ : BufTy).Contents (Elt F)) : val_main_v28 (F := F) x0 = resO (F := F) x0 := by
  funext j
  have h0 : (j 0).val < 3 := (j 0).isLt
  have h1 : (j 1).val < 2816 := (j 1).isLt
  have h2 : (j 2).val < 2048 := (j 2).isLt
  have e0 : (idx_main_v28 j 0).val = (j 0).val := by
    show (((j 0).val * 2816 + (j 1).val) * 2048 + (j 2).val) / 5767168 = _; omega
  have e1 : (idx_main_v28 j 1).val = (j 1).val := by
    show (((j 0).val * 2816 + (j 1).val) * 2048 + (j 2).val) / 2048 % 2816 = _; omega
  have e2 : (idx_main_v28 j 2).val = (j 2).val / 2 := by
    show (((j 0).val * 2816 + (j 1).val) * 2048 + (j 2).val) / 2 % 1024 = _; omega
  have e3 : (idx_main_v28 j 3).val = (j 2).val % 2 := by
    show (((j 0).val * 2816 + (j 1).val) * 2048 + (j 2).val) % 2 = _; omega
  rw [val_main_v28_apply, v27_at, e0, e1, e2, e3]
  rfl

/-- The second result: the kernel's two transpositions and two reshapes are the reference's one transposition. -/
theorem scales_eq (x1 : Vec F Cert.KernelIdeal.S3x16x5632x2 .f32) :
    transpose Cert.KernelIdeal.S3x5632x16x2 [0, 3, 1, 2] (shapeCast Cert.KernelIdeal.S3x16x2x5632
      (shapeCast Cert.KernelIdeal.S3x1408x128 (transpose Cert.KernelIdeal.S3x16x2x5632 [0, 1, 3, 2] x1 Cert.KernelIdeal.Facts₀.transposes_S3x16x5632x2_S3x16x2x5632_0_1_3_2)
        Cert.KernelIdeal.Facts₀.shapeCasts_S3x16x2x5632_S3x1408x128) Cert.KernelIdeal.Facts₀.shapeCasts_S3x1408x128_S3x16x2x5632) Cert.KernelIdeal.Facts₀.transposes_S3x16x2x5632_S3x5632x16x2_0_3_1_2
    = val_main_v29 (F := F) x1 := by
  funext j
  rw [val_main_v29_apply, shapeCast_shapeCast]
  refine (transpose_apply _ _ _ j (ValueIdx.ix4 (j 0) (j 2) (j 3) (j 1)) (fun b => by match b with | 0 => rfl | 1 => rfl | 2 => rfl | 3 => rfl)).trans ?_
  refine (transpose_apply _ _ _ _ (ValueIdx.ix4 (j 0) (j 2) (j 1) (j 3)) (fun b => by match b with | 0 => rfl | 1 => rfl | 2 => rfl | 3 => rfl)).trans ?_
  refine congrArg x1 ?_
  funext b
  match b with | 0 => rfl | 1 => rfl | 2 => rfl | 3 => rfl

end Cert.ReferenceIdeal.Ref

end
-- ==== Proof.Algebraic.lean ====
module

public import proofs.«01_k».proof.Defs
public import proofs.«01_k».proof.Proof.Ref
public import Idealize.ShloMosaic.Lib.Quiescent

@[expose] public section

set_option maxRecDepth 16384

noncomputable section

namespace Cert.Proof

open Idealize.ShloMosaic Idealize.ShloMosaic.TcCoe Idealize.SL.Sem

/-- The kernel's run: it ends with the repacked array and the moved scales, its arguments unchanged. -/
theorem kernel_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v2_0) = Cert.KernelIdeal.Unit.resO (F := F) (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_v4) = Cert.ReferenceIdeal.Read.val_main_v29 (F := F) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  have hv := (θ_run _ _ _).mono (fun r h => (fun c => ⟨((h c).1 2).trans (Cert.KernelIdeal.Unit.arr2 m c),
      ((h c).2 Cert.KernelIdeal.main_v4 (Pipeline.mem_restRefs_of _ (by decide) (by decide))).trans
        ((Cert.KernelIdeal.Unit.tail_v4 m c).trans (by rw [Cert.KernelIdeal.Unit.V_main_v1]; exact Cert.ReferenceIdeal.Ref.scales_eq (F := F) _))⟩ :
      ∀ c : Dev Cert.KernelIdeal.nD,
      r.2.mem ((c.tc : Thread Cert.KernelIdeal.nD Cert.KernelIdeal.τ).loc Cert.KernelIdeal.main_v2_0) = Cert.KernelIdeal.Unit.resO (F := F) (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_v4) = Cert.ReferenceIdeal.Read.val_main_v29 (F := F) (m ((c.tc : Thread Cert.KernelIdeal.nD Cert.KernelIdeal.τ).loc Cert.KernelIdeal.main_arg1))))
    (Cert.KernelIdeal.Unit.run_main m ρ)
  exact (θ_run _ _ _).mono (fun r h c => ⟨(h.1 c).1, (h.1 c).2, (h.2 c).1, (h.2 c).2⟩) (θ_run_and hv (Cert.KernelIdeal.Gen.frame_of m ρ (Cert.KernelIdeal.Unit.dats m) (Cert.KernelIdeal.Unit.A_eq m) (Cert.KernelIdeal.Unit.run_main m ρ)))

/-- The kernel and the reference, from equal arguments, end with equal results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Unit.resO (F := Ideal) (m ((c.tc : Thread _ _).loc Cert.KernelIdeal.main_arg0)),
    fun c => Cert.ReferenceIdeal.Read.val_main_v29 (F := Ideal) (m ((c.tc : Thread _ _).loc Cert.KernelIdeal.main_arg1)), kernel_run (F := Ideal) m g, ?_⟩
  refine (θ_run (Cert.ReferenceIdeal.defs (F := Ideal)) _ _).mono (fun r h c => ?_) (Cert.ReferenceIdeal.Value.run (F := Ideal) m' g')
  obtain ⟨h28, h29, h0, h1⟩ := h c
  refine ⟨h28.trans ?_, h29.trans ?_, h0, h1⟩
  · rw [(hargs c).1]
    exact (Cert.ReferenceIdeal.Read.val_main_v28_eq (F := Ideal) _).trans (Cert.ReferenceIdeal.Ref.v28_at (F := Ideal) _)
  · rw [(hargs c).2]
    exact Cert.ReferenceIdeal.Read.val_main_v29_eq (F := Ideal) _

/-- The reference runs, its arguments end unchanged, and it declares no semaphore. -/
theorem reference_frame : Cert.quiescent_ReferenceIdeal (hReferenceIdeal := Cert.ReferenceIdeal.Gen.facts) := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

end Cert.Proof

end
-- ==== Proof.lean ====
/- The proof of the claims: the frames, that the idealization keeps the kernel's text, and the equality with the reference (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims hold. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
